-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x224x224x96 : Shape := ⟨4, ![1, 224, 224, 96]⟩
abbrev S8192x4 : Shape := ⟨2, ![8192, 4]⟩
abbrev S8192 : Shape := ⟨1, ![8192]⟩
abbrev S_ : Shape := ⟨0, ![]⟩

class Facts : Prop where
  bcast_S_S8192x4 : S_.BroadcastsInDim S8192x4 (![] : Fin 0 → Fin S8192x4.rank)

variable [Facts]

def fn {F : FTy → Type} [FloatOps F] (main_arg0 : FVec F S1x224x224x96 .f32) (main_arg1 : IVec S8192x4 32) (main_arg2 : FVec F S8192 .f32) : IVec S8192x4 1 :=
  let main_c : IVec S_ 32 := constantI S_ 32 0#32
  let main_v0 : IVec S8192x4 32 := broadcastInDim S8192x4 ![] bcast_S_S8192x4 main_c
  let main_v1 : IVec S8192x4 1 := cmpi .sge main_arg1 main_v0
  let main_c_0 : IVec S_ 32 := constantI S_ 32 3#32
  let main_v2 : IVec S8192x4 32 := broadcastInDim S8192x4 ![] bcast_S_S8192x4 main_c_0
  let main_v3 : IVec S8192x4 1 := cmpi .slt main_arg1 main_v2
  let main_v4 : IVec S8192x4 1 := andi main_v1 main_v3
  main_v4
-- ==== Kernel.lean ====
abbrev S1x224x224x96 : Shape := ⟨4, ![1, 224, 224, 96]⟩
abbrev S8192x4 : Shape := ⟨2, ![8192, 4]⟩
abbrev S8192 : Shape := ⟨1, ![8192]⟩
abbrev S224x224x96 : Shape := ⟨3, ![224, 224, 96]⟩
abbrev S224x96x224 : Shape := ⟨3, ![224, 96, 224]⟩
abbrev S8192x1 : Shape := ⟨2, ![8192, 1]⟩
abbrev S222x96x222 : Shape := ⟨3, ![222, 96, 222]⟩
abbrev S32x96x222 : Shape := ⟨3, ![32, 96, 222]⟩
abbrev S9x232x224 : Shape := ⟨3, ![9, 232, 224]⟩
abbrev S8x128 : Shape := ⟨2, ![8, 128]⟩
abbrev S_ : Shape := ⟨0, ![]⟩
abbrev S9 : Shape := ⟨1, ![9]⟩
abbrev S1 : Shape := ⟨1, ![1]⟩
abbrev S1x224x224 : Shape := ⟨3, ![1, 224, 224]⟩
abbrev S224x224 : Shape := ⟨2, ![224, 224]⟩
abbrev S224x1x224 : Shape := ⟨3, ![224, 1, 224]⟩
abbrev S8192x128 : Shape := ⟨2, ![8192, 128]⟩
abbrev S4096x128 : Shape := ⟨2, ![4096, 128]⟩
abbrev S2048x128 : Shape := ⟨2, ![2048, 128]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S32x128 : Shape := ⟨2, ![32, 128]⟩
abbrev S16x128 : Shape := ⟨2, ![16, 128]⟩
abbrev S128 : Shape := ⟨1, ![128]⟩
abbrev S1x128 : Shape := ⟨2, ![1, 128]⟩
abbrev S1x40x224 : Shape := ⟨3, ![1, 40, 224]⟩
abbrev S40x224 : Shape := ⟨2, ![40, 224]⟩
abbrev S32x93x222 : Shape := ⟨3, ![32, 93, 222]⟩
abbrev S32x222 : Shape := ⟨2, ![32, 222]⟩
abbrev S1x1 : Shape := ⟨2, ![1, 1]⟩
abbrev S32x1x222 : Shape := ⟨3, ![32, 1, 222]⟩
abbrev S222x222x96 : Shape := ⟨3, ![222, 222, 96]⟩
abbrev S1x222x222x96 : Shape := ⟨4, ![1, 222, 222, 96]⟩

abbrev nBuf : Space → Nat
  | .hbm => 9
  | .vmem => 6
  | .smem => 1
  | _ => 0

abbrev bufTy : (tb : Table) → Fin (tcTables nBuf tb) → BufTy
  | .hbm, ⟨0, _⟩ => ⟨S1x224x224x96, .f32⟩
  | .hbm, ⟨1, _⟩ => ⟨S8192x4, .i32⟩
  | .hbm, ⟨2, _⟩ => ⟨S8192, .f32⟩
  | .hbm, ⟨3, _⟩ => ⟨S224x224x96, .f32⟩
  | .hbm, ⟨4, _⟩ => ⟨S224x96x224, .f32⟩
  | .hbm, ⟨5, _⟩ => ⟨S8192x1, .f32⟩
  | .hbm, ⟨6, _⟩ => ⟨S222x96x222, .f32⟩
  | .hbm, ⟨7, _⟩ => ⟨S222x222x96, .f32⟩
  | .hbm, ⟨8, _⟩ => ⟨S1x222x222x96, .f32⟩
  | .local _ .vmem, ⟨0, _⟩ => ⟨S8192x4, .i32⟩
  | .local _ .vmem, ⟨1, _⟩ => ⟨S8192x1, .f32⟩
  | .local _ .vmem, ⟨2, _⟩ => ⟨S32x96x222, .f32⟩
  | .local _ .vmem, ⟨3, _⟩ => ⟨S32x96x222, .f32⟩
  | .local _ .vmem, ⟨4, _⟩ => ⟨S9x232x224, .f32⟩
  | .local _ .vmem, ⟨5, _⟩ => ⟨S8x128, .f32⟩
  | .local _ .smem, ⟨0, _⟩ => ⟨S8x128, .f32⟩
  | _, _ => ⟨S1x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![7], ![false]⟩

def k0_off1 (i : grid0.Coords) : Fin 3 → Nat :=
  let c0 : Index := 0#32
  let arg0 : BitVec 32 := BitVec.ofNat 32 (i 0).val
  let c32_i32 : BitVec 32 := 32#32
  let v3 : BitVec 32 := Scalar.muli arg0 c32_i32
  let v4 : Index := Scalar.indexCast v3
  let c0_1 : Index := 0#32
  ![0, v4.toNat, 0]
def k0_off2 (i : grid0.Coords) : Fin 3 → Nat :=
  let c1 : Index := 1#32
  let arg0 : BitVec 32 := BitVec.ofNat 32 (i 0).val
  let c32_i32 : BitVec 32 := 32#32
  let v3 : BitVec 32 := Scalar.muli arg0 c32_i32
  let v7 : Index := Scalar.indexCast v3
  let c0_2 : Index := 0#32
  ![1, v7.toNat, 0]
def k0_off3 (i : grid0.Coords) : Fin 3 → Nat :=
  let c2 : Index := 2#32
  let arg0 : BitVec 32 := BitVec.ofNat 32 (i 0).val
  let c32_i32 : BitVec 32 := 32#32
  let v3 : BitVec 32 := Scalar.muli arg0 c32_i32
  let v10 : Index := Scalar.indexCast v3
  let c0_3 : Index := 0#32
  ![2, v10.toNat, 0]
def k0_off4 (i : grid0.Coords) : Fin 3 → Nat :=
  let c3 : Index := 3#32
  let arg0 : BitVec 32 := BitVec.ofNat 32 (i 0).val
  let c32_i32 : BitVec 32 := 32#32
  let v3 : BitVec 32 := Scalar.muli arg0 c32_i32
  let v13 : Index := Scalar.indexCast v3
  let c0_4 : Index := 0#32
  ![3, v13.toNat, 0]
def k0_off5 (i : grid0.Coords) : Fin 3 → Nat :=
  let c4 : Index := 4#32
  let arg0 : BitVec 32 := BitVec.ofNat 32 (i 0).val
  let c32_i32 : BitVec 32 := 32#32
  let v3 : BitVec 32 := Scalar.muli arg0 c32_i32
  let v16 : Index := Scalar.indexCast v3
  let c0_5 : Index := 0#32
  ![4, v16.toNat, 0]
def k0_off6 (i : grid0.Coords) : Fin 3 → Nat :=
  let c5 : Index := 5#32
  let arg0 : BitVec 32 := BitVec.ofNat 32 (i 0).val
  let c32_i32 : BitVec 32 := 32#32
  let v3 : BitVec 32 := Scalar.muli arg0 c32_i32
  let v19 : Index := Scalar.indexCast v3
  let c0_6 : Index := 0#32
  ![5, v19.toNat, 0]
def k0_off7 (i : grid0.Coords) : Fin 3 → Nat :=
  let c6 : Index := 6#32
  let arg0 : BitVec 32 := BitVec.ofNat 32 (i 0).val
  let c32_i32 : BitVec 32 := 32#32
  let v3 : BitVec 32 := Scalar.muli arg0 c32_i32
  let v22 : Index := Scalar.indexCast v3
  let c0_7 : Index := 0#32
  ![6, v22.toNat, 0]
def k0_off8 (i : grid0.Coords) : Fin 3 → Nat :=
  let c7 : Index := 7#32
  let arg0 : BitVec 32 := BitVec.ofNat 32 (i 0).val
  let c32_i32 : BitVec 32 := 32#32
  let v3 : BitVec 32 := Scalar.muli arg0 c32_i32
  let v25 : Index := Scalar.indexCast v3
  let c0_8 : Index := 0#32
  ![7, v25.toNat, 0]
def k0_off9 (i : grid0.Coords) : Fin 3 → Nat :=
  let c8 : Index := 8#32
  let arg0 : BitVec 32 := BitVec.ofNat 32 (i 0).val
  let c32_i32 : BitVec 32 := 32#32
  let v3 : BitVec 32 := Scalar.muli arg0 c32_i32
  let v28 : Index := Scalar.indexCast v3
  let c0_9 : Index := 0#32
  ![8, v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x96x222 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x224x224x96 : Shape := ⟨4, ![1, 224, 224, 96]⟩
abbrev S8192x4 : Shape := ⟨2, ![8192, 4]⟩
abbrev S8192 : Shape := ⟨1, ![8192]⟩
abbrev S_ : Shape := ⟨0, ![]⟩
abbrev S96x3x3x96 : Shape := ⟨4, ![96, 3, 3, 96]⟩
abbrev S8192x1 : Shape := ⟨2, ![8192, 1]⟩
abbrev S96x864 : Shape := ⟨2, ![96, 864]⟩
abbrev S1x96x224x224 : Shape := ⟨4, ![1, 96, 224, 224]⟩
abbrev S1x96x222x222 : Shape := ⟨4, ![1, 96, 222, 222]⟩
abbrev S1x96x1x222x222 : Shape := ⟨5, ![1, 96, 1, 222, 222]⟩
abbrev S1x96x9x222x222 : Shape := ⟨5, ![1, 96, 9, 222, 222]⟩
abbrev S1x864x49284 : Shape := ⟨3, ![1, 864, 49284]⟩
abbrev S864x49284 : Shape := ⟨2, ![864, 49284]⟩
abbrev S96x49284 : Shape := ⟨2, ![96, 49284]⟩
abbrev S1x222x222x96 : Shape := ⟨4, ![1, 222, 222, 96]⟩

abbrev nBuf : Space → Nat
  | .hbm => 73
  | .vmem => 0
  | .smem => 0
  | _ => 0

abbrev bufTy : (tb : Table) → Fin (tcTables nBuf tb) → BufTy
  | .hbm, ⟨0, _⟩ => ⟨S1x224x224x96, .f32⟩
  | .hbm, ⟨1, _⟩ => ⟨S8192x4, .i32⟩
  | .hbm, ⟨2, _⟩ => ⟨S8192, .f32⟩
  | .hbm, ⟨3, _⟩ => ⟨S_, .f32⟩
  | .hbm, ⟨4, _⟩ => ⟨S96x3x3x96, .f32⟩
  | .hbm, ⟨5, _⟩ => ⟨S8192x1, .i32⟩
  | .hbm, ⟨6, _⟩ => ⟨S8192, .i32⟩
  | .hbm, ⟨7, _⟩ => ⟨S8192x1, .i32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x1, .i32⟩
  | .hbm, ⟨43, _⟩ => ⟨S8192x1, .i32⟩
  | .hbm, ⟨44, _⟩ => ⟨S8192x1, .i32⟩
  | .hbm, ⟨45, _⟩ => ⟨S8192x4, .i32⟩
  | .hbm, ⟨46, _⟩ => ⟨S96x3x3x96, .f32⟩
  | .hbm, ⟨47, _⟩ => ⟨S96x864, .f32⟩
  | .hbm, ⟨48, _⟩ => ⟨S1x96x224x224, .f32⟩
  | .hbm, ⟨49, _⟩ => ⟨S1x96x222x222, .f32⟩
  | .hbm, ⟨50, _⟩ => ⟨S1x96x222x222, .f32⟩
  | .hbm, ⟨51, _⟩ => ⟨S1x96x222x222, .f32⟩
  | .hbm, ⟨52, _⟩ => ⟨S1x96x222x222, .f32⟩
  | .hbm, ⟨53, _⟩ => ⟨S1x96x222x222, .f32⟩
  | .hbm, ⟨54, _⟩ => ⟨S1x96x222x222, .f32⟩
  | .hbm, ⟨55, _⟩ => ⟨S1x96x222x222, .f32⟩
  | .hbm, ⟨56, _⟩ => ⟨S1x96x222x222, .f32⟩
  | .hbm, ⟨57, _⟩ => ⟨S1x96x222x222, .f32⟩
  | .hbm, ⟨58, _⟩ => ⟨S1x96x1x222x222, .f32⟩
  | .hbm, ⟨59, _⟩ => ⟨S1x96x1x222x222, .f32⟩
  | .hbm, ⟨60, _⟩ => ⟨S1x96x1x222x222, .f32⟩
  | .hbm, ⟨61, _⟩ => ⟨S1x96x1x222x222, .f32⟩
  | .hbm, ⟨62, _⟩ => ⟨S1x96x1x222x222, .f32⟩
  | .hbm, ⟨63, _⟩ => ⟨S1x96x1x222x222, .f32⟩
  | .hbm, ⟨64, _⟩ => ⟨S1x96x1x222x222, .f32⟩
  | .hbm, ⟨65, _⟩ => ⟨S1x96x1x222x222, .f32⟩
  | .hbm, ⟨66, _⟩ => ⟨S1x96x1x222x222, .f32⟩
  | .hbm, ⟨67, _⟩ => ⟨S1x96x9x222x222, .f32⟩
  | .hbm, ⟨68, _⟩ => ⟨S1x864x49284, .f32⟩
  | .hbm, ⟨69, _⟩ => ⟨S864x49284, .f32⟩
  | .hbm, ⟨70, _⟩ => ⟨S96x49284, .f32⟩
  | .hbm, ⟨71, _⟩ => ⟨S1x96x222x222, .f32⟩
  | .hbm, ⟨72, _⟩ => ⟨S1x222x222x96, .f32⟩
  | _, _ => ⟨S1x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Proof.Setup.lean ====
/- The names the frame and value proofs of `KernelIdeal` share: the buffers and cells the kernel body addresses, @main
   around its one region at the algebra that carries the transfers' counters, and the split of the kernel body into its
   PROLOGUE (run at the first grid point only: nine planes of the image copied into scratch, the weight bins
   accumulated and moved to scalar memory) and its TAIL (run at every point). -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The scratch of nine planes, the staging row of weight bins, the scalar-memory table of them, the image in HBM. -/
abbrev planesM : Memref sig .tc .vmem S9x232x224 .f32 := Memref.whole cc0_scratch0
abbrev rowM : Memref sig .tc .vmem S8x128 .f32 := Memref.whole cc0_scratch1
abbrev tableM : Memref sig .tc .smem S8x128 .f32 := Memref.whole cc0_scratch2
abbrev imageM : Memref sig .tc .hbm S224x96x224 .f32 := Memref.whole main_v1
/-- The contents of the whole buffer a memref names, and holding it whole at them. -/
abbrev BufOf (c : Dev nD) {sp : Space} {S : Shape} {e : EltTy} (M : Memref sig .tc sp S e) : Type := Buf (Elt F) (M.view.loc (c : Thread nD τ))
abbrev ptOf (c : Dev nD) {sp : Space} {S : Shape} {e : EltTy} (M : Memref sig .tc sp S e) (f : BufOf (F := F) c M) : sProp 𝕄 :=
  M.view.loc (c : Thread nD τ) ↦{fullShare} f

/-- The body's ten DMA cells at zero: the one of the table's copy, then the nine of the planes' copies. -/
abbrev cells0 (c : Dev nD) : sProp 𝕄 :=
  iprop(semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0)

/-- The kernel's test "this is the first grid point", as it spells it. -/
abbrev isFirst (i : grid0.Coords) : Prop :=
  Scalar.cmpi .ne (Scalar.extui (Scalar.cmpi .eq (BitVec.ofNat 32 (i 0).val) 0#32) : BitVec 32) 0#32 = 1#1

section Split
variable (i : grid0.Coords) (arg1 : Memref sig .tc .vmem S8192x4 .i32) (harg1 : arg1.IsWhole)
  (arg2 : Memref sig .tc .vmem S8192x1 .f32) (harg2 : arg2.IsWhole) (arg4 : Memref sig .tc .vmem S32x96x222 .f32) (harg4 : arg4.IsWhole)

/-- The kernel body on whole staging memrefs, the buffers it addresses itself filled in. -/
abbrev bodyP : Prog (TpuEff nD τ sig (Elt F) Λ₀ .tc) PUnit :=
  cc0__fused_kernel i arg1 harg1 arg2 harg2 imageM (Memref.isWhole_whole _) arg4 harg4 planesM (Memref.isWhole_whole _)
    rowM (Memref.isWhole_whole _) tableM (Memref.isWhole_whole _) cc0_scratch3 cc0_scratch4

/-- A wait for the copy of plane `n` of the image, channel `ch`. -/
def waitPlane (n ch : ℕ) (h9 : ∀ a, (![n] : Fin 1 → ℕ) a + S1.size a ≤ S9.size a)
    (hp : ∀ a, (![n, 0, 0] : Fin 3 → ℕ) a + S1x224x224.size a ≤ S9x232x224.size a)
    (hx : ∀ a, (![0, ch, 0] : Fin 3 → ℕ) a + S224x1x224.size a ≤ S224x96x224.size a) :
    Prog (TpuEff nD τ sig (Elt F) Λ₀ .tc) PUnit :=
  Prog.lift (.waitDma2 ((cc0_scratch4.slice (Rect.unit (s := S9) ![n] S1.size h9)).squeeze S_ squeezes_S1_S_).sem
    ((imageM.slice (Rect.unit (s := S224x96x224) ![0, ch, 0] S224x1x224.size hx) (fun _ => rfl)).squeeze S224x224 squeezes_S224x1x224_S224x224)
    ((planesM.slice (Rect.unit (s := S9x232x224) ![n, 0, 0] S1x224x224.size hp) (fun _ => rfl)).squeeze S224x224 squeezes_S1x224x224_S224x224)
    ((View.wordExact_bits rfl).reshape _ _) ((View.wordExact_bits rfl).reshape _ _))

/-- The prologue: the parts under the kernel's `pl.when(g == 0)`. -/
def prologue : Prog (TpuEff nD τ sig (Elt F) Λ₀ .tc) PUnit := do
  k0_part1 i arg1 harg1 arg2 harg2 imageM (Memref.isWhole_whole _) arg4 harg4 planesM (Memref.isWhole_whole _) rowM (Memref.isWhole_whole _) tableM (Memref.isWhole_whole _) cc0_scratch3 cc0_scratch4
  k0_part2 i arg1 harg1 arg2 harg2 imageM (Memref.isWhole_whole _) arg4 harg4 planesM (Memref.isWhole_whole _) rowM (Memref.isWhole_whole _) tableM (Memref.isWhole_whole _) cc0_scratch3 cc0_scratch4
  let bins ← k0_part3 i arg1 harg1 arg2 harg2 imageM (Memref.isWhole_whole _) arg4 harg4 planesM (Memref.isWhole_whole _) rowM (Memref.isWhole_whole _) tableM (Memref.isWhole_whole _) cc0_scratch3 cc0_scratch4
  k0_part4 i arg1 harg1 arg2 harg2 imageM (Memref.isWhole_whole _) arg4 harg4 planesM (Memref.isWhole_whole _) rowM (Memref.isWhole_whole _) tableM (Memref.isWhole_whole _) cc0_scratch3 cc0_scratch4 bins
  k0_part5 i arg1 harg1 arg2 harg2 imageM (Memref.isWhole_whole _) arg4 harg4 planesM (Memref.isWhole_whole _) rowM (Memref.isWhole_whole _) tableM (Memref.isWhole_whole _) cc0_scratch3 cc0_scratch4
  waitPlane 6 64 inb_S9_S1_6 inb_S9x232x224_S1x224x224_6_0_0 inb_S224x96x224_S224x1x224_0_64_0
  waitPlane 7 74 inb_S9_S1_7 inb_S9x232x224_S1x224x224_7_0_0 inb_S224x96x224_S224x1x224_0_74_0
  waitPlane 8 85 inb_S9_S1_8 inb_S9x232x224_S1x224x224_8_0_0 inb_S224x96x224_S224x1x224_0_85_0

/-- What the two outer parts return: the nine planes' rows with a block of zeros; the last row of the block. -/
abbrev Part6Ty : Type := Σ' (v6 : FVec F S40x224 .f32) (v9 : FVec F S40x224 .f32) (v12 : FVec F S40x224 .f32) (v15 : FVec F S40x224 .f32) (v18 : FVec F S40x224 .f32) (v21 : FVec F S40x224 .f32) (v24 : FVec F S40x224 .f32) (v27 : FVec F S40x224 .f32) (v30 : FVec F S40x224 .f32), FVec F S32x93x222 .f32

abbrev part6 : Prog (TpuEff nD τ sig (Elt F) Λ₀ .tc) (Part6Ty (F := F)) := k0_part6 (F := F) i arg1 harg1 arg2 harg2 imageM (Memref.isWhole_whole _) arg4 harg4 planesM (Memref.isWhole_whole _) rowM (Memref.isWhole_whole _) tableM (Memref.isWhole_whole _) cc0_scratch3 cc0_scratch4
abbrev part16 : Prog (TpuEff nD τ sig (Elt F) Λ₀ .tc) (FVec F S32x1x222 .f32) := k0_part16 (F := F) i arg1 harg1 arg2 harg2 imageM (Memref.isWhole_whole _) arg4 harg4 planesM (Memref.isWhole_whole _) rowM (Memref.isWhole_whole _) tableM (Memref.isWhole_whole _) cc0_scratch3 cc0_scratch4

/-- What follows the prologue inside its part: the nine planes' rows loaded. -/
def loads : { p : Prog (TpuEff nD τ sig (Elt F) Λ₀ .tc) (Part6Ty (F := F)) // ¬ isFirst i → part6 (F := F) i arg1 harg1 arg2 harg2 arg4 harg4 = p } := by
  refine ⟨?_, fun h => ?eq⟩
  case eq =>
    show k0_part6_skel (F := F) i arg1 harg1 arg2 harg2 imageM (Memref.isWhole_whole _) arg4 harg4 planesM (Memref.isWhole_whole _) rowM (Memref.isWhole_whole _) tableM (Memref.isWhole_whole _) cc0_scratch3 cc0_scratch4 = _
    unfold k0_part6_skel
    exact dif_neg h

/-- At the first point the part is the prologue, then the loads. -/
theorem part6_first (h : isFirst i) : part6 (F := F) i arg1 harg1 arg2 harg2 arg4 harg4
    = prologue i arg1 harg1 arg2 harg2 arg4 harg4 >>= fun _ => (loads i arg1 harg1 arg2 harg2 arg4 harg4).1 := by
  show k0_part6_skel (F := F) i arg1 harg1 arg2 harg2 imageM (Memref.isWhole_whole _) arg4 harg4 planesM (Memref.isWhole_whole _) rowM (Memref.isWhole_whole _) tableM (Memref.isWhole_whole _) cc0_scratch3 cc0_scratch4 = _
  unfold k0_part6_skel
  refine (dif_pos h).trans ?_
  unfold prologue loads waitPlane
  simp only [bind_assoc]

/-- The rest of the two outer parts, as continuations. -/
def rest16 : { r : Part6Ty (F := F) → Prog (TpuEff nD τ sig (Elt F) Λ₀ .tc) (FVec F S32x1x222 .f32) // part16 (F := F) i arg1 harg1 arg2 harg2 arg4 harg4 = part6 i arg1 harg1 arg2 harg2 arg4 harg4 >>= r } :=
  by
  refine ⟨?_, ?eq⟩
  case eq => unfold part16; rw [k0_part16_eq_skeleton]; unfold k0_part16_skel; rfl
def rest0 : { r : FVec F S32x1x222 .f32 → Prog (TpuEff nD τ sig (Elt F) Λ₀ .tc) PUnit // bodyP (F := F) i arg1 harg1 arg2 harg2 arg4 harg4 = part16 i arg1 harg1 arg2 harg2 arg4 harg4 >>= r } :=
  by
  refine ⟨?_, ?eq⟩
  case eq => unfold bodyP; rw [cc0__fused_kernel_eq_skeleton]; unfold cc0__fused_kernel_skel; rfl

/-- The tail: what the body runs at every point. -/
def tailP : Prog (TpuEff nD τ sig (Elt F) Λ₀ .tc) PUnit :=
  ((loads i arg1 harg1 arg2 harg2 arg4 harg4).1 >>= (rest16 i arg1 harg1 arg2 harg2 arg4 harg4).1) >>= (rest0 i arg1 harg1 arg2 harg2 arg4 harg4).1

/-- At the first point the body is the prologue, then the tail; -/
theorem bodyP_first (h : isFirst i) : bodyP (F := F) i arg1 harg1 arg2 harg2 arg4 harg4
    = prologue i arg1 harg1 arg2 harg2 arg4 harg4 >>= fun _ => tailP i arg1 harg1 arg2 harg2 arg4 harg4 := by
  refine (rest0 i arg1 harg1 arg2 harg2 arg4 harg4).2.trans ((congrArg (· >>= _) ((rest16 i arg1 harg1 arg2 harg2 arg4 harg4).2.trans
    (congrArg (· >>= _) (part6_first i arg1 harg1 arg2 harg2 arg4 harg4 h)))).trans ?_)
  unfold tailP
  simp only [bind_assoc]
/-- at every other, the tail alone. -/
theorem bodyP_later (h : ¬ isFirst i) : bodyP (F := F) i arg1 harg1 arg2 harg2 arg4 harg4
    = tailP i arg1 harg1 arg2 harg2 arg4 harg4 := by
  exact (rest0 i arg1 harg1 arg2 harg2 arg4 harg4).2.trans (congrArg (· >>= _) ((rest16 i arg1 harg1 arg2 harg2 arg4 harg4).2.trans
    (congrArg (· >>= _) ((loads i arg1 harg1 arg2 harg2 arg4 harg4).2 h))))

end Split

end Cert.KernelIdeal.Hand

end
-- ==== Proof.Prologue.lean ====
/- The prologue's run. -/
module

public import proofs.«01_k».proof.Proof.Setup
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The image channel plane `n` holds. -/
def planeChannel (n : Fin 9) : Fin 96 := ⟨32 * n.val / 3, by omega⟩

/-- The scratch of planes holds the image's nine channels on its first 224 rows. -/
def HoldsPlanes (c : Dev nD) (x : BufOf (F := F) c imageM) (p : BufOf (F := F) c planesM) : Prop :=
  ∀ (n : Fin 9) (r q : Fin 224), View.read (Elt F) planesM.view p (ix3 n (r.castLE (by decide) : Fin 232) q)
    = View.read (Elt F) imageM.view x (ix3 r (planeChannel n) q)

/-- Column `k` of the four weight indices. -/
def indexColumn (X1 : S8192x4.Idx → Elt F .i32) (k : Fin 4) : Vec F S8192x1 .i32 := fun j => X1 (ix2 (j 0) k)

/-- The table of weight bins the first grid point leaves in scalar memory. -/
def tableOf (X1 : S8192x4.Idx → Elt F .i32) (X2 : S8192x1.Idx → Elt F .f32) : FVec F S8x128 .f32 :=
  k0_pay2 (k0_pay1 (indexColumn X1 0) (indexColumn X1 1) (indexColumn X1 2) (indexColumn X1 3) X2)

/-- Reading the planes after a copy has landed in plane `k`. -/
theorem read_landed (k : ℕ) (inb : ∀ a, (![k, 0, 0] : Fin 3 → ℕ) a + S1x224x224.size a ≤ S9x232x224.size a)
    (hr : ∀ a, (Rect.unit (s := S9x232x224) ![k, 0, 0] S1x224x224.size inb).stride a = 1)
    (p : planesM.view.ty.Contents (Elt F)) (w : S224x224.Idx → Elt F .f32) (n : Fin 9) (r q : Fin 224) :
    View.read (Elt F) planesM.view (View.write (Elt F)
        ((planesM.slice (Rect.unit (s := S9x232x224) ![k, 0, 0] S1x224x224.size inb) hr).squeeze S224x224 squeezes_S1x224x224_S224x224).view
        p w Finset.univ) (ix3 n (r.castLE (by decide) : Fin 232) q)
      = if n.val = k then w (ix2 r q) else View.read (Elt F) planesM.view p (ix3 n (r.castLE (by decide) : Fin 232) q) := by
  split
  case isTrue h =>
    have e : (ix3 n (r.castLE (by decide) : Fin 232) q : S9x232x224.Idx)
        = (Rect.unit (s := S9x232x224) ![k, 0, 0] S1x224x224.size inb).emb (ix3 (0 : Fin 1) r q) := by
      funext a
      match a with
      | ⟨0, _⟩ => exact Fin.ext (by show n.val = k + 1 * 0; omega)
      | ⟨1, _⟩ => exact Fin.ext (by show r.val = 0 + 1 * r.val; omega)
      | ⟨2, _⟩ => exact Fin.ext (by show q.val = 0 + 1 * q.val; omega)
    rw [e]
    have hx := congrFun (View.read_write_univ (v := ((planesM.slice (Rect.unit (s := S9x232x224) ![k, 0, 0] S1x224x224.size inb) hr).squeeze
      S224x224 squeezes_S1x224x224_S224x224).view) (Val := Elt F) p w) (ix2 r q)
    rw [← hx]
    show _ = View.read (Elt F) planesM.view _ ((Rect.unit (s := S9x232x224) ![k, 0, 0] S1x224x224.size inb).emb (Shape.reshapeEquiv _ (ix2 r q)))
    rw [reshapeEquiv_ix2_1ab]
    rfl
  case isFalse h =>
    refine (congrArg (fun f => View.read (Elt F) planesM.view f _)
      (View.write_reshape_univ (planesM.view.slice (Rect.unit (s := S9x232x224) ![k, 0, 0] S1x224x224.size inb)) _ p w)).trans ?_
    apply View.read_slice_write_of_not_mem
    rw [Rect.map_emb_univ]
    refine Rect.not_mem_set_of_axis _ _ 0 k 1 rfl rfl rfl ?_
    show n.val < k ∨ k + 1 ≤ n.val
    omega

/-- Reading channel `k` of the image through the source view of a plane's copy. -/
theorem read_channel (k : Fin 96) (inb : ∀ a, (![0, k.val, 0] : Fin 3 → ℕ) a + S224x1x224.size a ≤ S224x96x224.size a)
    (hr : ∀ a, (Rect.unit (s := S224x96x224) ![0, k.val, 0] S224x1x224.size inb).stride a = 1)
    (x : imageM.view.ty.Contents (Elt F)) (r q : Fin 224) :
    View.read (Elt F) ((imageM.slice (Rect.unit (s := S224x96x224) ![0, k.val, 0] S224x1x224.size inb) hr).squeeze S224x224 squeezes_S224x1x224_S224x224).view
        x (ix2 r q) = View.read (Elt F) imageM.view x (ix3 r k q) := by
  have e : (Rect.unit (s := S224x96x224) ![0, k.val, 0] S224x1x224.size inb).emb (ix3 r (0 : Fin 1) q) = (ix3 r k q : S224x96x224.Idx) := by
    funext a
    match a with
    | ⟨0, _⟩ => exact Fin.ext (by show 0 + 1 * r.val = r.val; omega)
    | ⟨1, _⟩ => exact Fin.ext (by show k.val + 1 * 0 = k.val; omega)
    | ⟨2, _⟩ => exact Fin.ext (by show 0 + 1 * q.val = q.val; omega)
  rw [← e]
  show View.read (Elt F) imageM.view _ ((Rect.unit (s := S224x96x224) ![0, k.val, 0] S224x1x224.size inb).emb (Shape.reshapeEquiv _ (ix2 r q))) = _
  refine congrArg (fun y => View.read (Elt F) imageM.view x ((Rect.unit (s := S224x96x224) ![0, k.val, 0] S224x1x224.size inb).emb y)) ?_
  exact Shape.reshapeEquiv_eq_of_rowMajor _ (by
    rw [Shape.rowMajor_val_three, Shape.rowMajor_val_two]
    show ((r.val * 1 + 0) * 224 + q.val) = r.val * 224 + q.val
    omega)

/-- A conditional by its two cases. -/
theorem ite_plane {α : Type} {n k : ℕ} {a b t : α} (hit : n = k → a = t) (miss : n ≠ k → b = t) : (if n = k then a else b) = t := by
  split
  · exact hit ‹_›
  · exact miss ‹_›

/-- Loading one column of the weight indices. -/
theorem column_load {arg1 : Memref sig .tc .vmem S8192x4 .i32} {f1 : arg1.view.ty.Contents (Elt F)} (k : ℕ) (hk : k < 4)
    (inb : ∀ a, (![0, k] : Fin 2 → ℕ) a + S8192x1.size a ≤ S8192x4.size a) :
    View.readAt (Elt F) arg1.view (Rect.unit (s := S8192x4) ![0, k] S8192x1.size inb).toLoadRect f1
      = indexColumn (View.read (Elt F) arg1.view f1) ⟨k, hk⟩ := by
  funext j
  show View.read (Elt F) arg1.view f1 _ = View.read (Elt F) arg1.view f1 _
  congr 1
  funext a
  match a with
  | ⟨0, _⟩ => exact Fin.ext (by show 0 + 1 * (j 0).val = (j 0).val; omega)
  | ⟨1, _⟩ => exact Fin.ext (by show k + 1 * (j 1).val = k; have : (j 1).val < 1 := (j 1).isLt; omega)

/-- Loading all the weight values. -/
theorem values_load {arg2 : Memref sig .tc .vmem S8192x1 .f32} {f2 : arg2.view.ty.Contents (Elt F)}
    (inb : ∀ a, (![0, 0] : Fin 2 → ℕ) a + S8192x1.size a ≤ S8192x1.size a) :
    View.readAt (Elt F) arg2.view (Rect.unit (s := S8192x1) ![0, 0] S8192x1.size inb).toLoadRect f2
      = View.read (Elt F) arg2.view f2 := by
  funext j
  show View.read (Elt F) arg2.view f2 _ = View.read (Elt F) arg2.view f2 _
  congr 1
  funext a
  match a with
  | ⟨0, _⟩ => exact Fin.ext (by show 0 + 1 * (j 0).val = (j 0).val; omega)
  | ⟨1, _⟩ => exact Fin.ext (by show 0 + 1 * (j 1).val = (j 1).val; omega)

/-- The staging row after its one store. -/
theorem row_stored {c : Dev nD} (d1 : BufOf (F := F) c rowM) (v : FVec F S8x128 .f32) :
    View.read (Elt F) rowM.view (rowM.view.writes (Elt F) d1 [⟨Rect.unit (s := S8x128) ![0, 0] S8x128.size inb_S8x128_S8x128_0_0, v⟩]) = v := by
  funext y
  refine View.read_writes_cons_hit_of_coords rowM.view d1 (Rect.unit (s := S8x128) ![0, 0] S8x128.size inb_S8x128_S8x128_0_0) v [] y y fun a => ?_
  match a with
  | ⟨0, _⟩ => show (y 0).val = 0 + 1 * (y 0).val; omega
  | ⟨1, _⟩ => show (y 1).val = 0 + 1 * (y 1).val; omega

set_option sl_exec.dmaWindow true in
/-- The prologue's run: the nine planes land, the table of weight bins is built and copied to scalar memory. -/
theorem prologue_run (c : Dev nD) (i : grid0.Coords) (arg1 : Memref sig .tc .vmem S8192x4 .i32) (harg1 : arg1.IsWhole)
    (arg2 : Memref sig .tc .vmem S8192x1 .f32) (harg2 : arg2.IsWhole) (arg4 : Memref sig .tc .vmem S32x96x222 .f32) (harg4 : arg4.IsWhole)
    (X1 : S8192x4.Idx → Elt F .i32) (X2 : S8192x1.Idx → Elt F .f32) (d0 : BufOf (F := F) c planesM) (d1 : BufOf (F := F) c rowM) (d2 : BufOf (F := F) c tableM)
    (x : BufOf (F := F) c imageM) (W : Waits sig Unit) (K : PUnit → sProp 𝕄) :
    iprop(owns (c : Thread nD τ) arg1 fullShare X1 ∗ owns (c : Thread nD τ) arg2 fullShare X2
        ∗ ptOf c planesM d0 ∗ ptOf c rowM d1 ∗ ptOf c tableM d2 ∗ cells0 c ∗ ptOf c imageM x ∗ owes (c : Thread nD τ) 0 W
        ∗ (iprop(owns (c : Thread nD τ) arg1 fullShare X1 ∗ owns (c : Thread nD τ) arg2 fullShare X2
            ∗ (∃ p, ⌜HoldsPlanes c x p⌝ ∗ ptOf c planesM p) ∗ (∃ d, ptOf c rowM d)
            ∗ (∃ w, ⌜View.read (Elt F) tableM.view w = tableOf X1 X2⌝ ∗ ptOf c tableM w)
            ∗ cells0 c ∗ ptOf c imageM x ∗ (∃ W', owes (c : Thread nD τ) 0 W')) -∗ K ⟨⟩))
      ⊢ wp frame (wpE (defs₀ (F := F)) Variants.none c none) Set.univ (prologue i arg1 harg1 arg2 harg2 arg4 harg4) K := by
  unfold prologue waitPlane
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns cells0
  iintro ⟨⟨%f1, %hf1, H1⟩, ⟨%f2, %hf2, H2⟩, HP, HR, HT, ⟨Hq4, Hq5, Hq6, Hq7, Hq8, Hq9, Hq10, Hq11, Hq12, Hq13⟩, HX, HW, Hk⟩
  sl_exec
  sl_step
  iapply Hk
  isplitl [H1]
  · iexists f1; isplitr; · ipureintro; exact hf1
    iexact H1
  isplitl [H2]
  · iexists f2; isplitr; · ipureintro; exact hf2
    iexact H2
  isplitl [HP]
  · iexists _
    isplitr
    swap; · iexact HP
    ipureintro
    intro n r q
    have hit : ∀ (k : Fin 9), n.val = k.val → n = k := fun k h => Fin.ext h
    refine (read_landed 8 _ _ _ _ n r q).trans (ite_plane (fun h => ?_) fun h8 => ?_)
    · obtain rfl := hit 8 h; exact read_channel (planeChannel 8) _ _ x r q
    refine (read_landed 7 _ _ _ _ n r q).trans (ite_plane (fun h => ?_) fun h7 => ?_)
    · obtain rfl := hit 7 h; exact read_channel (planeChannel 7) _ _ x r q
    refine (read_landed 6 _ _ _ _ n r q).trans (ite_plane (fun h => ?_) fun h6 => ?_)
    · obtain rfl := hit 6 h; exact read_channel (planeChannel 6) _ _ x r q
    refine (read_landed 5 _ _ _ _ n r q).trans (ite_plane (fun h => ?_) fun h5 => ?_)
    · obtain rfl := hit 5 h; exact read_channel (planeChannel 5) _ _ x r q
    refine (read_landed 4 _ _ _ _ n r q).trans (ite_plane (fun h => ?_) fun h4 => ?_)
    · obtain rfl := hit 4 h; exact read_channel (planeChannel 4) _ _ x r q
    refine (read_landed 3 _ _ _ _ n r q).trans (ite_plane (fun h => ?_) fun h3 => ?_)
    · obtain rfl := hit 3 h; exact read_channel (planeChannel 3) _ _ x r q
    refine (read_landed 2 _ _ _ _ n r q).trans (ite_plane (fun h => ?_) fun h2 => ?_)
    · obtain rfl := hit 2 h; exact read_channel (planeChannel 2) _ _ x r q
    refine (read_landed 1 _ _ _ _ n r q).trans (ite_plane (fun h => ?_) fun h1 => ?_)
    · obtain rfl := hit 1 h; exact read_channel (planeChannel 1) _ _ x r q
    refine (read_landed 0 _ _ _ _ n r q).trans (ite_plane (fun h => ?_) fun h0 => ?_)
    · obtain rfl := hit 0 h; exact read_channel (planeChannel 0) _ _ x r q
    have := n.isLt
    omega
  isplitl [HR]; · iexists _; iexact HR
  isplitl [HT]
  · iexists _
    isplitr
    swap; · iexact HT
    ipureintro
    unfold prologue_run.sl.dma7 prologue_run.sl.HR_1
    refine (View.read_write_univ (v := tableM.view) (Val := Elt F) d2 _).trans ?_
    refine (row_stored d1 _).trans ?_
    · unfold tableOf
      subst hf1 hf2
      rw [column_load 0 (by decide), column_load 1 (by decide), column_load 2 (by decide), column_load 3 (by decide), values_load]
      rfl
  isplitl [Hq4 Hq5 Hq6 Hq7 Hq8 Hq9 Hq10 Hq11 Hq12 Hq13]
  · isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    iexact Hq13
  isplitl [HX]; · iexact HX
  iexists _; iexact HW

end Cert.KernelIdeal.Hand

end
-- ==== Proof.Tail.lean ====
/- The run every grid point shares: nine planes read, the output block stored. -/
module

public import proofs.«01_k».proof.Proof.Setup
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The stores of the output block at a point, the last one first, as a function of the planes and the table held. -/
def tail_run (c : Dev nD) (i : grid0.Coords) (arg1 : Memref sig .tc .vmem S8192x4 .i32) (harg1 : arg1.IsWhole)
    (arg2 : Memref sig .tc .vmem S8192x1 .f32) (harg2 : arg2.IsWhole) (arg4 : Memref sig .tc .vmem S32x96x222 .f32) (harg4 : arg4.IsWhole)
    (p : BufOf (F := F) c planesM) (w : BufOf (F := F) c tableM) :
    { L : List (View.Piece (Elt F) S32x96x222 .f32) // ∀ (W : Waits sig Unit) (K : PUnit → sProp 𝕄),
      iprop(ptOf c planesM p ∗ ptOf c tableM w ∗ (∃ d, owns (c : Thread nD τ) arg4 fullShare d) ∗ owes (c : Thread nD τ) 0 W
        ∗ (iprop(ptOf c planesM p ∗ ptOf c tableM w
            ∗ (∃ f, arg4.view.loc (c : Thread nD τ) ↦[arg4.view.set]{fullShare} arg4.view.writes (Elt F) f L)
            ∗ owes (c : Thread nD τ) 0 W) -∗ K ⟨⟩))
      ⊢ wp frame (wpE (defs₀ (F := F)) Variants.none c none) Set.univ (tailP i arg1 harg1 arg2 harg2 arg4 harg4) K } := by
  refine ⟨?_, fun W K => ?run⟩
  case run =>
    unfold tailP loads rest16 rest0
    simp only [k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton]
    unfold k0_part7_skel k0_part8_skel k0_part9_skel k0_part10_skel k0_part11_skel k0_part12_skel k0_part13_skel k0_part14_skel k0_part15_skel
    unfold owns
    iintro ⟨HP, HT, ⟨%d4, %f4, -, H4⟩, HW, Hk⟩
    sl_exec
    sl_step
    iapply Hk
    isplitl [HP]; · iexact HP
    isplitl [HT]; · iexact HT
    isplitl [H4]; · iexists f4; iexact H4
    iexact HW

end Cert.KernelIdeal.Hand

end
-- ==== Proof.Block.lean ====
/- The value the run of one grid point stores: each of the first three channels of the output block is
   a sum of 27 products of a table word and a shifted plane element, and every later channel is zero. -/
module

public import proofs.«01_k».proof.Proof.Prologue
public import proofs.«01_k».proof.Proof.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-- The zero every running sum starts from. -/
def zeroF : Elt F .f32 := Scalar.ofBits (F := F) .f32 0x00000000#32

/-- Three terms added to an accumulator, one after the other. -/
def tap3 (acc : Elt F .f32) (f : Fin 3 → Elt F .f32) : Elt F .f32 :=
  FloatOps.addf (FloatOps.addf (FloatOps.addf acc (f 0)) (f 1)) (f 2)

/-- The 27 terms added to zero in the kernel's order. -/
def taps (f : Fin 9 → Fin 3 → Elt F .f32) : Elt F .f32 :=
  tap3 (tap3 (tap3 (tap3 (tap3 (tap3 (tap3 (tap3 (tap3 zeroF (f 0)) (f 1)) (f 2)) (f 3)) (f 4)) (f 5)) (f 6)) (f 7)) (f 8)

/-- The row shift of plane `t`. -/
def shift (t : Fin 9) : Fin 3 := ⟨(2 * t.val) % 3, Nat.mod_lt _ (by decide)⟩

/-- The table's lane for plane `t`, column shift `c` and output channel `o`. -/
def binOf (t : Fin 9) (c o : Fin 3) : Fin 128 := ⟨(3 * t.val + c.val) * 3 + o.val, by omega⟩

/-- The row of the planes that row `y` of block `g` reads at row shift `d`. -/
def rowOf (g : Fin 7) (y : Fin 32) (d : Fin 3) : Fin 232 := ⟨32 * g.val + (d.val + y.val), by omega⟩

/-- The column of the planes that column `q` reads at column shift `c`. -/
def colOf (q : Fin 222) (c : Fin 3) : Fin 224 := ⟨c.val + q.val, by omega⟩

/-- The output block of point `g` from a table `W` and planes `P`. -/
def blockOf (W : FVec F S8x128 .f32) (P : FVec F S9x232x224 .f32) (g : Fin 7) : FVec F S32x96x222 .f32 := fun j =>
  if h : (j 1).val < 3 then
    taps fun t c => FloatOps.mulf (W (ix2 (0 : Fin 8) (binOf t c ⟨(j 1).val, h⟩))) (P (ix3 t (rowOf g (j 0) (shift t)) (colOf (j 2) c)))
  else zeroF

/-- Blocks of planes that agree on the rows an output element reads agree at that element. -/
theorem blockOf_congr (W : FVec F S8x128 .f32) (P Q : FVec F S9x232x224 .f32) (g : Fin 7) (j : S32x96x222.Idx)
    (h : ∀ t c, P (ix3 t (rowOf g (j 0) (shift t)) (colOf (j 2) c)) = Q (ix3 t (rowOf g (j 0) (shift t)) (colOf (j 2) c))) :
    blockOf W P g j = blockOf W Q g j := by
  unfold blockOf
  simp only [h]

/-- The first row a point loads, as a number: 32 times the point. -/
theorem first_row : ∀ g : Fin 7, (Scalar.indexCast (Scalar.muli (BitVec.ofNat 32 g.val) 32#32) : Index).toNat = 32 * g.val := by
  decide +kernel

/-- The grid point's number. -/
def pt (i : grid0.Coords) : Fin 7 := ⟨(i 0).val, (i 0).isLt⟩

/-- The offsets of the load from plane `n` at point `i`. -/
def slabOff (i : grid0.Coords) (n : Fin 9) : Fin 3 → Nat :=
  ![n.val, (Scalar.indexCast (Scalar.muli (BitVec.ofNat 32 (i 0).val) 32#32) : Index).toNat, 0]

theorem slabOff_inb (i : grid0.Coords) (n : Fin 9) : ∀ a, slabOff i n a + S1x40x224.size a ≤ S9x232x224.size a := by
  have h0 : slabOff i n 1 = 32 * (i 0).val := first_row ⟨(i 0).val, (i 0).isLt⟩
  have hi : (i 0).val < 7 := (i 0).isLt
  intro a
  match a with
  | ⟨0, _⟩ => show n.val + 1 ≤ 9; omega
  | ⟨1, _⟩ => exact (congrArg (· + 40) h0).trans_le (by show 32 * (i 0).val + 40 ≤ 232; omega)
  | ⟨2, _⟩ => exact Nat.le_refl 224

/-- The forty rows of plane `n` that point `i` loads. -/
def slab (c : Dev nD) (i : grid0.Coords) (p : BufOf (F := F) c planesM) (n : Fin 9) : FVec F S40x224 .f32 :=
  shapeCast S40x224 (View.readAt (Elt F) planesM.view (Rect.unit (s := S9x232x224) (slabOff i n) S1x40x224.size (slabOff_inb i n)).toLoadRect p)
    shapeCasts_S1x40x224_S40x224

theorem slab_slices (a b : Fin 3) : S40x224.Slices ![a.val, b.val] S32x222 := by
  refine ⟨rfl, fun k => ?_⟩
  match k with
  | ⟨0, _⟩ => show a.val + 32 ≤ 40; omega
  | ⟨1, _⟩ => show b.val + 222 ≤ 224; omega

/-- The element of the loaded rows of plane `t` that output element `(y, q)` reads at column shift `c`. -/
theorem slab_at (c : Dev nD) (i : grid0.Coords) (p : BufOf (F := F) c planesM) (t : Fin 9) (d : Fin 3) (e : Fin 3) (y : Fin 32) (q : Fin 222)
    (h) : extractStridedSlice S32x222 ![d.val, e.val] (slab c i p t) h (ix2 y q)
      = View.read (Elt F) planesM.view p (ix3 t (rowOf (pt i) y d) (colOf q e)) := by
  have h0 : slabOff i t 1 = 32 * (i 0).val := first_row ⟨(i 0).val, (i 0).isLt⟩
  have er : Shape.reshapeEquiv shapeCasts_S1x40x224_S40x224 (ix2 (⟨d.val + y.val, by omega⟩ : Fin 40) (⟨e.val + q.val, by omega⟩ : Fin 224))
      = (ix3 (0 : Fin 1) (⟨d.val + y.val, by omega⟩ : Fin 40) (⟨e.val + q.val, by omega⟩ : Fin 224) : S1x40x224.Idx) :=
    Shape.reshapeEquiv_eq_of_rowMajor _ (by
      rw [Shape.rowMajor_val_three, Shape.rowMajor_val_two]
      show ((0 * 40 + (d.val + y.val)) * 224 + (e.val + q.val)) = (d.val + y.val) * 224 + (e.val + q.val)
      omega)
  have hx : ∀ z : S40x224.Idx, (z 0).val = d.val + y.val → (z 1).val = e.val + q.val →
      z = ix2 (⟨d.val + y.val, by omega⟩ : Fin 40) (⟨e.val + q.val, by omega⟩ : Fin 224) := by
    intro z hz0 hz1
    funext a
    match a with
    | ⟨0, _⟩ => exact Fin.ext hz0
    | ⟨1, _⟩ => exact Fin.ext hz1
  refine (congrArg (slab c i p t) (hx _ rfl rfl)).trans ?_
  unfold slab
  show View.read (Elt F) planesM.view p ((Rect.unit (s := S9x232x224) (slabOff i t) S1x40x224.size (slabOff_inb i t)).emb
    (Shape.reshapeEquiv shapeCasts_S1x40x224_S40x224 _)) = _
  rw [er]
  congr 1
  funext a
  match a with
  | ⟨0, _⟩ => exact Fin.ext (by show t.val + 1 * 0 = t.val; omega)
  | ⟨1, _⟩ => exact Fin.ext (by show slabOff i t 1 + 1 * (d.val + y.val) = 32 * (i 0).val + (d.val + y.val); omega)
  | ⟨2, _⟩ => exact Fin.ext (by show 0 + 1 * (e.val + q.val) = e.val + q.val; omega)

/-- The table word of lane `k`. -/
def wordAt (c : Dev nD) (w : BufOf (F := F) c tableM) (k : Nat)
    (h : ∀ a : Fin 2, (![0, k] : Fin 2 → Nat) a + S1x1.size a ≤ S8x128.size a) : Elt F .f32 :=
  View.readAt (Elt F) tableM.view (Rect.unit (s := S8x128) ![0, k] S1x1.size h).toLoadRect w (Shape.Idx.first (numel1_S1x1.symm ▸ Nat.one_pos))

theorem wordAt_eq (c : Dev nD) (w : BufOf (F := F) c tableM) (k : Fin 128) (h) :
    wordAt c w k.val h = View.read (Elt F) tableM.view w (ix2 (0 : Fin 8) k) := by
  show View.read (Elt F) tableM.view w _ = View.read (Elt F) tableM.view w _
  congr 1
  funext a
  match a with
  | ⟨0, _⟩ => exact Fin.ext (by show 0 + 1 * 0 = 0; omega)
  | ⟨1, _⟩ => exact Fin.ext (by show k.val + 1 * 0 = k.val; omega)

theorem word_inb (k : Fin 128) : ∀ a : Fin 2, (![0, k.val] : Fin 2 → Nat) a + S1x1.size a ≤ S8x128.size a := by
  intro a
  match a with
  | ⟨0, _⟩ => show 0 + 1 ≤ 8; omega
  | ⟨1, _⟩ => show k.val + 1 ≤ 128; omega

/-- One product of the sum, in the form the kernel computes it. -/
def rawTerm (c : Dev nD) (i : grid0.Coords) (p : BufOf (F := F) c planesM) (w : BufOf (F := F) c tableM) (o : Fin 3) (x : S32x222.Idx)
    (t : Fin 9) (e : Fin 3) : Elt F .f32 :=
  FloatOps.mulf (wordAt c w (binOf t e o).val (word_inb _)) (extractStridedSlice S32x222 ![(shift t).val, e.val] (slab c i p t) (slab_slices _ _) x)

variable (c : Dev nD) (i : grid0.Coords)
  (arg1 : Memref sig .tc .vmem S8192x4 .i32) (harg1 : arg1.IsWhole) (arg2 : Memref sig .tc .vmem S8192x1 .f32) (harg2 : arg2.IsWhole)
  (arg4 : Memref sig .tc .vmem S32x96x222 .f32) (harg4 : arg4.IsWhole)
  (p : BufOf (F := F) c planesM) (w : BufOf (F := F) c tableM)

/-- The rectangle of output channel `o`, one channel deep. -/
theorem chan_inb (o : Fin 3) : ∀ a : Fin 3, (![0, o.val, 0] : Fin 3 → Nat) a + S32x1x222.size a ≤ S32x96x222.size a := by
  intro a
  match a with
  | ⟨0, _⟩ => show 0 + 32 ≤ 32; omega
  | ⟨1, _⟩ => show o.val + 1 ≤ 96; omega
  | ⟨2, _⟩ => show 0 + 222 ≤ 222; omega

/-- The piece stored at channel `o`. -/
def chanPiece (o : Fin 3) : View.Piece (Elt F) S32x96x222 .f32 :=
  ⟨Rect.unit (s := S32x96x222) ![0, o.val, 0] S32x1x222.size (chan_inb o),
    shapeCast S32x1x222 (fun x => taps (rawTerm c i p w o x) : FVec F S32x222 .f32) shapeCasts_S32x222_S32x1x222⟩

/-- The pieces the run stores: the zero channels first, then channels 0, 1 and 2. -/
theorem tail_pieces : (tail_run c i arg1 harg1 arg2 harg2 arg4 harg4 p w).1
    = [chanPiece c i p w 2, chanPiece c i p w 1, chanPiece c i p w 0,
       ⟨Rect.unit (s := S32x96x222) ![0, 3, 0] S32x93x222.size inb_S32x96x222_S32x93x222_0_3_0, fun _ => zeroF⟩] := by
  rfl

/-- A term in the kernel's form is the product of the table's word and the planes' element. -/
theorem rawTerm_eq (o : Fin 3) (y : Fin 32) (q : Fin 222) (t : Fin 9) (e : Fin 3) :
    rawTerm c i p w o (ix2 y q) t e = FloatOps.mulf (View.read (Elt F) tableM.view w (ix2 (0 : Fin 8) (binOf t e o)))
      (View.read (Elt F) planesM.view p (ix3 t (rowOf (pt i) y (shift t)) (colOf q e))) := by
  unfold rawTerm
  rw [slab_at, wordAt_eq]

/-- The block at one of the first three channels. -/
theorem blockOf_chan (W : FVec F S8x128 .f32) (P : FVec F S9x232x224 .f32) (g : Fin 7) (o : Fin 3) (y : Fin 32) (q : Fin 222) :
    blockOf W P g (ix3 y (⟨o.val, by omega⟩ : Fin 96) q)
      = taps fun t e => FloatOps.mulf (W (ix2 (0 : Fin 8) (binOf t e o))) (P (ix3 t (rowOf g y (shift t)) (colOf q e))) := by
  unfold blockOf
  exact dif_pos o.isLt

/-- Reading channel `o`'s piece, written last, gives the closed form. -/
theorem read_chan (f : arg4.view.ty.Contents (Elt F)) (L : List (View.Piece (Elt F) S32x96x222 .f32)) (o : Fin 3)
    (y : Fin 32) (q : Fin 222) :
    View.read (Elt F) arg4.view (arg4.view.writes (Elt F) f (chanPiece c i p w o :: L)) (ix3 y (⟨o.val, by omega⟩ : Fin 96) q)
      = blockOf (View.read (Elt F) tableM.view w) (View.read (Elt F) planesM.view p) (pt i) (ix3 y (⟨o.val, by omega⟩ : Fin 96) q) := by
  unfold chanPiece
  refine (View.read_writes_cons_hit_of_coords arg4.view f _ _ L (ix3 y (0 : Fin 1) q : S32x1x222.Idx) _ ?_).trans ?_
  · intro a
    match a with
    | ⟨0, _⟩ => show y.val = 0 + 1 * y.val; omega
    | ⟨1, _⟩ => show o.val = o.val + 1 * 0; omega
    | ⟨2, _⟩ => show q.val = 0 + 1 * q.val; omega
  have er : Shape.reshapeEquiv shapeCasts_S32x222_S32x1x222 (ix3 y (0 : Fin 1) q : S32x1x222.Idx) = (ix2 y q : S32x222.Idx) :=
    Shape.reshapeEquiv_eq_of_rowMajor _ (by
      rw [Shape.rowMajor_val_three, Shape.rowMajor_val_two]
      show y.val * 222 + q.val = (y.val * 1 + 0) * 222 + q.val
      omega)
  show taps (rawTerm c i p w o (Shape.reshapeEquiv shapeCasts_S32x222_S32x1x222 (ix3 y (0 : Fin 1) q : S32x1x222.Idx))) = _
  rw [er]
  refine Eq.trans ?_ (blockOf_chan _ _ _ o y q).symm
  congr 1
  funext t e
  exact rawTerm_eq c i p w o y q t e

/-- A piece of another channel is passed over. -/
theorem read_other (f : arg4.view.ty.Contents (Elt F)) (L : List (View.Piece (Elt F) S32x96x222 .f32)) (o : Fin 3)
    (j : S32x96x222.Idx) (h : (j 1).val ≠ o.val) :
    View.read (Elt F) arg4.view (arg4.view.writes (Elt F) f (chanPiece c i p w o :: L)) j = View.read (Elt F) arg4.view (arg4.view.writes (Elt F) f L) j :=
  View.read_writes_cons_miss_of_axis arg4.view f _ L j (1 : Fin 3) o.val 1 rfl rfl rfl (by omega)

/-- What the output buffer holds after the run: the closed form. -/
theorem read_block (f : arg4.view.ty.Contents (Elt F)) :
    View.read (Elt F) arg4.view (arg4.view.writes (Elt F) f (tail_run c i arg1 harg1 arg2 harg2 arg4 harg4 p w).1)
      = blockOf (View.read (Elt F) tableM.view w) (View.read (Elt F) planesM.view p) (pt i) := by
  funext j
  rw [tail_pieces]
  by_cases h : (j 1).val < 3
  · have hit : ∀ (o : Fin 3) (L : List (View.Piece (Elt F) S32x96x222 .f32)), (j 1).val = o.val →
        View.read (Elt F) arg4.view (arg4.view.writes (Elt F) f (chanPiece c i p w o :: L)) j
          = blockOf (View.read (Elt F) tableM.view w) (View.read (Elt F) planesM.view p) (pt i) j := by
      intro o L ho
      have hj : j = (ix3 (j 0) (⟨o.val, by omega⟩ : Fin 96) (j 2) : S32x96x222.Idx) := by
        funext a
        match a with
        | ⟨0, _⟩ => rfl
        | ⟨1, _⟩ => exact Fin.ext ho
        | ⟨2, _⟩ => rfl
      exact (congrArg _ hj).trans ((read_chan c i arg4 p w f L o (j 0) (j 2)).trans (congrArg _ hj.symm))
    by_cases h2 : (j 1).val = 2
    · exact hit 2 _ h2
    rw [read_other c i arg4 p w f _ 2 j h2]
    by_cases h1 : (j 1).val = 1
    · exact hit 1 _ h1
    rw [read_other c i arg4 p w f _ 1 j h1]
    exact hit 0 _ (by show (j 1).val = 0; omega)
  · rw [read_other c i arg4 p w f _ 2 j (by show _ ≠ 2; omega), read_other c i arg4 p w f _ 1 j (by show _ ≠ 1; omega),
      read_other c i arg4 p w f _ 0 j (by show _ ≠ 0; omega)]
    have hz : blockOf (View.read (Elt F) tableM.view w) (View.read (Elt F) planesM.view p) (pt i) j = zeroF := by
      unfold blockOf; exact dif_neg h
    rw [hz]
    have h96 : (j 1).val < 96 := (j 1).isLt
    refine View.read_writes_cons_hit_of_coords arg4.view f _ _ [] (ix3 (j 0) (⟨(j 1).val - 3, by omega⟩ : Fin 93) (j 2) : S32x93x222.Idx) j ?_
    intro a
    match a with
    | ⟨0, _⟩ => show (j 0).val = 0 + 1 * (j 0).val; omega
    | ⟨1, _⟩ => show (j 1).val = 3 + 1 * ((j 1).val - 3); omega
    | ⟨2, _⟩ => show (j 2).val = 0 + 1 * (j 2).val; omega

end Cert.KernelIdeal.Hand

end
-- ==== Proof.Run.lean ====
/- The run of the whole program: the proof data of the pipeline, the body's obligation at a grid point, the run of @main,
   and the frame it gives. -/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its region -/

set_option maxHeartbeats 800000 in
/-- @main runs the lines before the region, the region, and the lines after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The one operand left in HBM that the body's own copies read: the transposed image. -/
def H0 : Finset (Ref sig .tc) := {main_v1}
theorem H0_sub : H0 ⊆ Pipeline.restRefs sig spec0 := by decide

/-- The lines after the region use neither that operand nor anything scoped. -/
theorem later_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl <;>
    · rw [StableHlo.unary_bufs, Finset.mem_insert, Finset.mem_singleton]
      exact not_or.mpr ⟨StableHlo.devRef_ne_of_ne (by decide), StableHlo.devRef_ne_of_ne (by decide)⟩

/-- The body's ten DMA cells. -/
abbrev osem0 : Fin 10 → SemLoc sig := fun j => (![SemLoc.dma 4, SemLoc.dma 5, SemLoc.dma 6, SemLoc.dma 7, SemLoc.dma 8, SemLoc.dma 9,
  SemLoc.dma 10, SemLoc.dma 11, SemLoc.dma 12, SemLoc.dma 13] : Fin 10 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8, 9] (by decide) (by decide)]; rfl
theorem image_list (c : Dev nD) :
    (bigSep H0 (fun b => ((c : Thread nD τ).loc b) ↦{fullShare} V m c b) : sProp 𝕄) = ptOf c imageM (V m c main_v1) := by
  rw [BI.bigSep_eq_bigSepL_of_eq [main_v1] (by decide) (by decide)]; rfl

/-- What the body holds besides its windows when it is first entered. -/
theorem entry_list (c : Dev nD) :
    (Pipeline.ΦD osem0 spec0 H0 (V m) c : sProp 𝕄)
      = iprop(((∃ f, ptOf c planesM f) ∗ (∃ f, ptOf c rowM f) ∗ (∃ f, ptOf c tableM f))
          ∗ (∃ r, prngReg c r) ∗ cells0 c ∗ ptOf c imageM (V m c main_v1)) := by
  rw [Pipeline.ΦD_eq, scopedRest0_eq, ownSems0_list, image_list]

/-! ## The proof data -/

/-- The planes of an image, zero on the rows past the image's. -/
def planesOf (x : FVec F S224x96x224 .f32) : FVec F S9x232x224 .f32 := fun j =>
  if h : (j 1).val < 224 then x (ix3 (⟨(j 1).val, h⟩ : Fin 224) (planeChannel (j 0)) (j 2)) else zeroF

/-- On the image's rows a plane is its channel of the image. -/
theorem planesOf_inside (x : FVec F S224x96x224 .f32) (n : Fin 9) (r : Fin 232) (q : Fin 224) (h : r.val < 224) :
    planesOf x (ix3 n r q) = x (ix3 (⟨r.val, h⟩ : Fin 224) (planeChannel n) q) := by
  unfold planesOf
  exact dif_pos h

/-- The two weight operands as the region finds them. -/
def indexIn (c : Dev nD) : Vec F S8192x4 .i32 := iblk m c 0 t0_0
def valueIn (c : Dev nD) : FVec F S8192x1 .f32 := iblk m c 1 t0_0

/-- The output block of point `t`. -/
def outBlock (c : Dev nD) (t : Fin cfg0.N) : FVec F S32x96x222 .f32 :=
  blockOf (tableOf (indexIn m c) (valueIn m c)) (planesOf (View.read (Elt F) imageM.view (V m c main_v1))) (pt (grid0.coords t))

/-- What the body holds besides its windows once the first point is done. -/
def held (c : Dev nD) : sProp 𝕄 :=
  iprop((∃ p, ⌜HoldsPlanes (F := F) c (V m c main_v1) p⌝ ∗ ptOf c planesM p) ∗ (∃ d, ptOf c rowM d)
    ∗ (∃ w, ⌜View.read (Elt F) tableM.view w = tableOf (indexIn m c) (valueIn m c)⌝ ∗ ptOf c tableM w)
    ∗ (∃ r, prngReg c r) ∗ cells0 c ∗ ptOf c imageM (V m c main_v1))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := if t.val = 0 then Pipeline.ΦD osem0 spec0 H0 (V m) c else held m c
  q _ := fullShare
  owed _ := 0

theorem A_eq (c : Dev nD) (w : Fin cfg0.W) : (dats m 0 c).A w = V m c (Pipeline.arrRef spec0 w) := by
  dsimp only [dats]

/-- Each input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rw [A_eq]; try rfl) t d).trans
    (by unfold Dat.fetched Dat.blockOf iblk; rw [A_eq]; try rfl)

theorem first_iff : ∀ t : Fin grid0.N, isFirst (grid0.coords t) ↔ t.val = 0 := by decide +kernel

/-- Every row the body's block moves is a row of the array. -/
theorem rows_inside : ∀ t : Fin grid0.N, 32 * (pt (grid0.coords t)).val + win0_2.xsize (grid0.coords t) 0 ≤ 222 := by decide +kernel

/-- Whatever the planes hold past the image's rows, the block agrees with the data's on the rows inside the array. -/
theorem block_cut (c : Dev nD) (t : Fin cfg0.N) (p : BufOf (F := F) c planesM) (hp : HoldsPlanes (F := F) c (V m c main_v1) p) :
    win0_2.cut (grid0.coords t) (blockOf (tableOf (indexIn m c) (valueIn m c)) (View.read (Elt F) planesM.view p) (pt (grid0.coords t)))
      = win0_2.cut (grid0.coords t) (outBlock m c t) := by
  funext j
  refine blockOf_congr _ _ _ _ _ fun s e => ?_
  have hj : (j 0).val < win0_2.xsize (grid0.coords t) 0 := (j 0).isLt
  have hr := rows_inside t
  have hs := (shift s).isLt
  have hlt : 32 * (pt (grid0.coords t)).val + ((shift s).val + (j 0).val) < 224 := by omega
  refine (hp s ⟨32 * (pt (grid0.coords t)).val + ((shift s).val + (j 0).val), hlt⟩ _).trans ?_
  exact (planesOf_inside _ s (rowOf (pt (grid0.coords t)) (win0_2.xinj (grid0.coords t) j 0) (shift s)) _ hlt).symm

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare
        (win0_2.fill (grid0.coords t) d (win0_2.cut (grid0.coords t) ((dats m 0 c).after 2 t)))))

/-- The tail at point `t`, from what the body holds once the first point's prologue is done. -/
theorem tail_point (c : Dev nD) (t : Fin cfg0.N) (K : PUnit → sProp 𝕄) :
    iprop(held m c ∗ (∃ W, owes (c : Thread nD τ) 0 W) ∗ (∃ d, owns (c : Thread nD τ) (win0_2.stage (cfg0.slots t 2)) fullShare d)
        ∗ (iprop(held m c ∗ (∃ W, owes (c : Thread nD τ) 0 W)
            ∗ (∃ d, owns (c : Thread nD τ) (win0_2.stage (cfg0.slots t 2)) fullShare
                (win0_2.fill (grid0.coords t) d (win0_2.cut (grid0.coords t) ((dats m 0 c).after 2 t))))) -∗ K ⟨⟩))
      ⊢ wp frame (wpE (defs₀ (F := F)) Variants.none c none) Set.univ
          (tailP (grid0.coords t) (win0_0.stage (cfg0.slots t 0)) (hstage0_0 ((cfg0.slots t 0).cast nbuf0_0)) (win0_1.stage (cfg0.slots t 1))
            (hstage0_1 ((cfg0.slots t 1).cast nbuf0_1)) (win0_2.stage (cfg0.slots t 2)) (hstage0_2 ((cfg0.slots t 2).cast nbuf0_2)))
          K := by
  unfold held
  iintro ⟨⟨⟨%p, %hp, HP⟩, HR, ⟨%w, %hw, HT⟩, Hg, Hc, HX⟩, ⟨%W, HW⟩, H2, Hk⟩
  iapply ((tail_run c (grid0.coords t) (win0_0.stage (cfg0.slots t 0)) (hstage0_0 ((cfg0.slots t 0).cast nbuf0_0)) (win0_1.stage (cfg0.slots t 1))
            (hstage0_1 ((cfg0.slots t 1).cast nbuf0_1)) (win0_2.stage (cfg0.slots t 2)) (hstage0_2 ((cfg0.slots t 2).cast nbuf0_2)) p w).2 W _)
  isplitl [HP]; · iexact HP
  isplitl [HT]; · iexact HT
  isplitl [H2]; · iexact H2
  isplitl [HW]; · iexact HW
  iintro ⟨HP, HT, ⟨%f, H2⟩, HW⟩
  iapply Hk
  isplitl [HP HR HT Hg Hc HX]
  · isplitl [HP]
    · iexists p; isplitr
      swap; · iexact HP
      ipureintro; exact hp
    isplitl [HR]; · iexact HR
    isplitl [HT]
    · iexists w; isplitr
      swap; · iexact HT
      ipureintro; exact hw
    isplitl [Hg]; · iexact Hg
    isplitl [Hc]; · iexact Hc
    iexact HX
  isplitl [HW]; · iexists W; iexact HW
  iexists (blockOf (tableOf (indexIn m c) (valueIn m c)) (View.read (Elt F) planesM.view p) (pt (grid0.coords t)))
  unfold owns
  iexists _
  isplitr
  swap; · iexact H2
  ipureintro
  refine (read_block c _ _ _ _ _ _ _ p w f).trans ?_
  rw [hw]
  exact (win0_2.fill_congr_cut (grid0.coords t) (block_cut m c t p hp)).symm

theorem slot_zero (c : Dev nD) (t : Fin (cfg0.N + 1)) (h : t.val = 0) : (dats m 0 c).Φ t = Pipeline.ΦD osem0 spec0 H0 (V m) c := by
  dsimp only [dats]; rw [if_pos h]
theorem slot_pos (c : Dev nD) (t : Fin (cfg0.N + 1)) (h : t.val ≠ 0) : (dats m 0 c).Φ t = held m c := by
  dsimp only [dats]; rw [if_neg h]

/-- The body at point `t`: at the first the prologue and then the tail, later the tail alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [slot_pos m c t.succ (Nat.succ_ne_zero _)]
  unfold Dat.owesAt Pipeline.owesWithin
  rw [show (dats m 0 c).owed t.castSucc = 0 from rfl, show (dats m 0 c).owed t.succ = 0 from rfl]
  by_cases h : t.val = 0
  · have ht : t = t0_0 := Fin.ext h
    rw [slot_zero m c t.castSucc h, entry_list]
    have hb : bodyAt0 (F := F) t = _ := bodyP_first (F := F) (grid0.coords t) _ _ _ _ _ _ ((first_iff t).mpr h)
    rw [hb, wp_bind]
    iintro ⟨⟨⟨⟨%d0, HP⟩, ⟨%d1, HR⟩, ⟨%d2, HT⟩⟩, Hg, Hc, HX⟩, ⟨%W, -, HW⟩, ⟨%e0, H0⟩, ⟨%e1, H1⟩, ⟨%e2, H2⟩⟩
    rw [before_0, before_1]
    iapply (prologue_run c (grid0.coords t) _ _ _ _ _ _ (iblk m c 0 t) (iblk m c 1 t) d0 d1 d2 (V m c main_v1) W _)
    isplitl [H0]; · iexact H0
    isplitl [H1]; · iexact H1
    isplitl [HP]; · iexact HP
    isplitl [HR]; · iexact HR
    isplitl [HT]; · iexact HT
    isplitl [Hc]; · iexact Hc
    isplitl [HX]; · iexact HX
    isplitl [HW]; · iexact HW
    iintro ⟨H0, H1, ⟨%p, %hp, HP⟩, HR, ⟨%w, %hw, HT⟩, Hc, HX, HW⟩
    iapply (tail_point m c t _)
    unfold held
    isplitl [HP HR HT Hg Hc HX]
    · isplitl [HP]
      · iexists p; isplitr
        swap; · iexact HP
        ipureintro; exact hp
      isplitl [HR]; · iexact HR
      isplitl [HT]
      · iexists w; isplitr
        swap; · iexact HT
        ipureintro; subst ht; exact hw
      isplitl [Hg]; · iexact Hg
      isplitl [Hc]; · iexact Hc
      iexact HX
    isplitl [HW]; · iexact HW
    isplitl [H2]; · iexists _; iexact H2
    iintro ⟨HI, ⟨%W', HW⟩, H2⟩
    isplitl [HI]; · iexact HI
    isplitl [HW]
    · iexists W'; isplitr; · ipureintro; exact fun _ _ => Or.inl trivial
      iexact HW
    isplitl [H0]; · iexact H0
    isplitl [H1]; · iexact H1
    iexact H2
  · rw [slot_pos m c t.castSucc h]
    have hb : bodyAt0 (F := F) t = _ := bodyP_later (F := F) (grid0.coords t) _ _ _ _ _ _ (fun hf => h ((first_iff t).mp hf))
    rw [hb]
    iintro ⟨HI, ⟨%W, -, HW⟩, ⟨%e0, H0⟩, ⟨%e1, H1⟩, ⟨%e2, H2⟩⟩
    rw [before_0, before_1]
    iapply (tail_point m c t _)
    isplitl [HI]; · iexact HI
    isplitl [HW]; · iexists W; iexact HW
    isplitl [H2]; · iexists _; iexact H2
    iintro ⟨HI, ⟨%W', HW⟩, H2⟩
    isplitl [HI]; · iexact HI
    isplitl [HW]
    · iexists W'; isplitr; · ipureintro; exact fun _ _ => Or.inl trivial
      iexact HW
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

/-- The body's obligation at every point, the last block's rows past the array unconstrained. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the body holds at the end gives back what it was lent. -/
theorem held_return (c : Dev nD) : held m c ⊢ (Pipeline.ΦD osem0 spec0 H0 (V m) c : sProp 𝕄) := by
  rw [entry_list]
  unfold held
  iintro ⟨⟨%p, -, HP⟩, HR, ⟨%w, -, HT⟩, Hg, Hc, HX⟩
  isplitl [HP HR HT]
  · isplitl [HP]; · iexists p; iexact HP
    isplitl [HR]; · iexact HR
    iexists w; iexact HT
  isplitl [Hg]; · iexact Hg
  isplitl [Hc]; · iexact Hc
  iexact HX

set_option backward.isDefEq.respectTransparency.types false in
/-- The run of @main: it ends with every array as the pipeline leaves it, everything else as the later lines leave it, and
    every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := body_obligation m) (hshare := fun c => (dats m 0 c).share_full fun _ => rfl)
    (howed := fun _ _ => rfl) (V₀ := V0 m) (opss := [hostOps1]) (hsub := later_sub) (hfresh := sfx_fresh) (hkeep := sfx_keeps)
    (hmain := main_around m Variants.none) (hA := A_eq m)
    (hin := fun c => by rw [slot_zero m c 0 rfl])
    (hout := fun c => by rw [slot_pos m c (Fin.last _) (by decide)]; exact held_return m c)
    (hQ' := fun _ h => h)

/-- No line after the region writes an argument that no window stages. -/
theorem kept_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact ⟨StableHlo.devRef_ne_of_ne (by decide), StableHlo.devRef_ne_of_ne (by decide)⟩)),
    Pipeline.withArrays_of_ne _ c (V0 m c) _ main_arg0 (by exact (by decide : ∀ w, Pipeline.arrRef spec0 w ≠ main_arg0))]
  exact V_main_arg0 m c
theorem kept_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.unary_writes, Finset.mem_singleton]
      exact ⟨StableHlo.devRef_ne_of_ne (by decide), StableHlo.devRef_ne_of_ne (by decide)⟩)),
    Pipeline.withArrays_of_ne _ c (V0 m c) _ main_arg2 (by exact (by decide : ∀ w, Pipeline.arrRef spec0 w ≠ main_arg2))]
  exact V_main_arg2 m c

/-- The frame: the arguments are unchanged and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(((h.1 c).2 main_arg0 (Pipeline.mem_restRefs_of main_arg0 (by decide) (by decide))).trans (kept_main_arg0 m c)),
      ((h.1 c).1 0).trans (((dats m 0 c).arrAt_in 0 rfl _).trans ((A_eq m c 0).trans (V_main_arg1 m c))),
      (((h.1 c).2 main_arg2 (Pipeline.mem_restRefs_of main_arg2 (by decide) (by decide))).trans (kept_main_arg2 m c))⟩, h.2⟩) (run_main m ρ)

end Cert.KernelIdeal.Hand

end
-- ==== Proof.AsPrinted.lean ====
module

public import proofs.«01_k».proof.Proof.Run
public import proofs.«01_k».proof.Defs
public import proofs.«01_k».proof.Proof.Gen.Kernel

/-! The kernel over machine floats is the same program text as the kernel over ideal floats, read
at another scalar type.  So the run of `Run`, stated for every scalar type, frames it too. -/

@[expose] public section

set_option maxRecDepth 65536

namespace Cert.KernelIdeal.Hand

open Idealize.ShloMosaic Idealize.SL.Sem
open Idealize.ShloMosaic.TcCoe

/-- Both programs give their one core label the same body. -/
theorem printed_body :
    Cert.Kernel.defs₀ (F := Bits) = Cert.KernelIdeal.defs₀ (F := Bits) := by
  refine congrArg Defs.onTc (funext fun l => funext fun a => ?_)
  obtain rfl : l = 0 := Subsingleton.elim (α := Fin 1) _ _
  rfl

/-- Both programs have the same definitions, the pipeline's included. -/
theorem printed_defs :
    Cert.Kernel.defs (F := Bits) = Cert.KernelIdeal.defs (F := Bits) :=
  congrArg (Pipeline.defs Cert.KernelIdeal.pcfgs) printed_body

set_option maxHeartbeats 4000000 in
/-- The machine kernel ends, leaves its arguments alone and every semaphore at zero. -/
theorem kernel_frame : Cert.quiescent_Kernel (hKernel := Cert.Kernel.Gen.facts) := by
  intro m g _
  refine Eq.mpr (congrArg (fun d => θ_run d
    (onTc (τ := Cert.KernelIdeal.τ) (Cert.KernelIdeal.main (F := Bits))) ⟨m, fun _ => 0, g⟩ _)
      printed_defs) ?_
  exact frame_run (F := Bits) m g

end Cert.KernelIdeal.Hand

end
-- ==== Proof.Frames.lean ====
module

public import proofs.«01_k».proof.Proof.AsPrinted
public import proofs.«01_k».proof.Proof.Gen.ReferenceIdeal.Run

/-! The frames of the ideal kernel and of the ideal reference. -/

@[expose] public section

namespace Cert.KernelIdeal.Hand

open Idealize.ShloMosaic Idealize.SL.Sem
open Idealize.ShloMosaic.TcCoe

/-- The ideal kernel ends, leaves its arguments alone and every semaphore at zero. -/
theorem ideal_frame : Cert.quiescent_KernelIdeal (hKernelIdeal := Cert.KernelIdeal.Gen.facts) :=
  fun m g _ => frame_run (F := Ideal) m g

/-- The ideal reference ends, leaves its arguments alone and every semaphore at zero: it has no
semaphore, and no operation of it writes an argument. -/
theorem reference_frame :
    Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

end Cert.KernelIdeal.Hand

end
-- ==== Proof.KernelValue.lean ====
/- What the kernel's result buffer holds at the end, element by element. -/
module

public import proofs.«01_k».proof.Proof.Run
public import Idealize.ShloMosaic.Lib.Pointwise
public import Idealize.ShloMosaic.Lib.Pointwise.IndexBridge

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The region's result -/

/-- The image row that output row `y` reads at row shift `d`. -/
def pixelRow (y : Fin 222) (d : Fin 3) : Fin 224 := ⟨d.val + y.val, by omega⟩

/-- The region's whole result from a table `W` and an image `x`: rows, channels, columns. -/
def sumsOf (W : FVec F S8x128 .f32) (x : FVec F S224x96x224 .f32) : FVec F S222x96x222 .f32 := fun j =>
  if h : (j 1).val < 3 then
    taps fun t c => FloatOps.mulf (W (ix2 (0 : Fin 8) (binOf t c ⟨(j 1).val, h⟩)))
      (x (ix3 (pixelRow (j 0) (shift t)) (planeChannel t) (colOf (j 2) c)))
  else zeroF

/-- The image as the region finds it. -/
def imageIn (c : Dev nD) : FVec F S224x96x224 .f32 := View.read (Elt F) imageM.view (V m c main_v1)

/-- An element of an output block is the element of the whole result at the block's offset. -/
theorem block_of_sums (W : FVec F S8x128 .f32) (x : FVec F S224x96x224 .f32) (g : Fin 7) (j : S32x96x222.Idx)
    (i : S222x96x222.Idx) (h0 : 32 * g.val + (j 0).val = (i 0).val) (h1 : (j 1).val = (i 1).val)
    (h2 : (j 2).val = (i 2).val) : blockOf W (planesOf x) g j = sumsOf W x i := by
  have hi : (i 0).val < 222 := (i 0).isLt
  unfold blockOf sumsOf
  by_cases h : (j 1).val < 3
  · rw [dif_pos h, dif_pos (h1 ▸ h)]
    refine congrArg taps (funext fun t => funext fun c => ?_)
    have hs := (shift t).isLt
    have hr : (rowOf g (j 0) (shift t)).val < 224 := by
      show 32 * g.val + ((shift t).val + (j 0).val) < 224
      omega
    rw [planesOf_inside x t _ _ hr, ← ix2_eq_valueIdx, ← ix3_eq_valueIdx]
    have e1 : (⟨(j 1).val, h⟩ : Fin 3) = ⟨(i 1).val, h1 ▸ h⟩ := Fin.ext h1
    have e2 : colOf (j 2) c = colOf (i 2) c := Fin.ext (by show c.val + (j 2).val = c.val + (i 2).val; rw [h2])
    have e3 : (⟨(rowOf g (j 0) (shift t)).val, hr⟩ : Fin 224) = pixelRow (i 0) (shift t) :=
      Fin.ext (by show 32 * g.val + ((shift t).val + (j 0).val) = (shift t).val + (i 0).val; omega)
    rw [e1, e2, e3]
  · rw [dif_neg h, dif_neg (h1 ▸ h)]

/-- Point `t`'s output block starts at row `32 t`, at channel 0 and column 0. -/
theorem out_start : ∀ t : Fin cfg0.N, win0_2.index t 0 * 32 = 32 * (pt (grid0.coords t)).val
    ∧ win0_2.index t 1 * 96 = 0 ∧ win0_2.index t 2 * 222 = 0 := by decide +kernel

/-- What point `t` writes back is its block of the whole result. -/
theorem flushed_eq (c : Dev nD) (t : Fin cfg0.N) :
    (dats m 0 c).flushed 2 t
      = (win0_2.blk t).view.read (Elt F) (sumsOf (tableOf (indexIn m c) (valueIn m c)) (imageIn m c)) := by
  funext j
  have hs := out_start t
  have hr := rows_inside t
  have h0 : (j 0).val < win0_2.xsize (grid0.coords t) 0 := (j 0).isLt
  show outBlock m c t (win0_2.xinj (grid0.coords t) j)
    = sumsOf (tableOf (indexIn m c) (valueIn m c)) (imageIn m c) ((win0_2.rect t).emb j)
  have h1 : ((win0_2.rect t).emb j 1).val = (win0_2.xinj (grid0.coords t) j 1).val := by
    show win0_2.index t 1 * 96 + 1 * (j 1).val = (j 1).val
    rw [hs.2.1]; omega
  have h2 : ((win0_2.rect t).emb j 2).val = (win0_2.xinj (grid0.coords t) j 2).val := by
    show win0_2.index t 2 * 222 + 1 * (j 2).val = (j 2).val
    rw [hs.2.2]; omega
  have h0' : ((win0_2.rect t).emb j 0).val = 32 * (pt (grid0.coords t)).val + (j 0).val := by
    show win0_2.index t 0 * 32 + 1 * (j 0).val = _
    rw [hs.1]; omega
  refine block_of_sums _ _ _ _ _ ?_ h1.symm h2.symm
  rw [h0']

/-- Where each output block starts and how much of it lies inside the array. -/
theorem out_extent : ∀ t : Fin cfg0.N, win0_2.index t 0 * 32 = 32 * t.val
    ∧ win0_2.xsize (grid0.coords t) 0 = min 32 (222 - 32 * t.val)
    ∧ win0_2.index t 1 * 96 = 0 ∧ win0_2.xsize (grid0.coords t) 1 = 96
    ∧ win0_2.index t 2 * 222 = 0 ∧ win0_2.xsize (grid0.coords t) 2 = 222 := by decide +kernel

/-- Every row below 222 is in the block of the point its number divided by 32 gives. -/
theorem out_cover (i : S222x96x222.Idx) :
    ∃ t : Fin cfg0.N, (cfg0.win 2).flush t = true ∧ i ∈ ((cfg0.win 2).blk t).view.set := by
  have h0 : (i 0).val < 222 := (i 0).isLt
  have h1 : (i 1).val < 96 := (i 1).isLt
  have h2 : (i 2).val < 222 := (i 2).isLt
  let t : Fin cfg0.N := ⟨(i 0).val / 32, by show _ < 7; omega⟩
  refine ⟨t, flush0_2 _, ?_⟩
  show i ∈ ((View.whole main_v3).slice (win0_2.rect t)).set
  rw [View.set_slice_whole, Rect.mem_set_unit]
  have hx := out_extent t
  intro a
  match a with
  | ⟨0, _⟩ =>
    show win0_2.index t 0 * 32 ≤ (i 0).val ∧ (i 0).val < win0_2.index t 0 * 32 + win0_2.xsize (grid0.coords t) 0
    rw [hx.1, hx.2.1]
    show 32 * ((i 0).val / 32) ≤ (i 0).val ∧ (i 0).val < 32 * ((i 0).val / 32) + min 32 (222 - 32 * ((i 0).val / 32))
    omega
  | ⟨1, _⟩ =>
    show win0_2.index t 1 * 96 ≤ (i 1).val ∧ (i 1).val < win0_2.index t 1 * 96 + win0_2.xsize (grid0.coords t) 1
    rw [hx.2.2.1, hx.2.2.2.1]
    omega
  | ⟨2, _⟩ =>
    show win0_2.index t 2 * 222 ≤ (i 2).val ∧ (i 2).val < win0_2.index t 2 * 222 + win0_2.xsize (grid0.coords t) 2
    rw [hx.2.2.2.2.1, hx.2.2.2.2.2]
    omega

/-- The region leaves the whole result in its output array. -/
theorem final_out (c : Dev nD) : (dats m 0 c).arrAt 2 cfg0.N
    = sumsOf (tableOf (indexIn m c) (valueIn m c)) (imageIn m c) :=
  (dats m 0 c).arrAt_eq_of_cover 2 _ (fun t _ => flushed_eq m c t) out_cover

/-! ## The lines around the region -/

/-- Dropping the unit axis and exchanging the last two axes, at an index. -/
theorem channels_first (x : FVec F S1x224x224x96 .f32) (r q : Fin 224) (k : Fin 96) :
    transpose S224x96x224 [0, 2, 1] (shapeCast S224x224x96 x shapeCasts_S1x224x224x96_S224x224x96)
      transposes_S224x224x96_S224x96x224_0_2_1 (ix3 r k q) = x (ix4 (0 : Fin 1) r q k) := by
  pointwise

/-- A list stood up as a column, at an index. -/
theorem as_column (x : FVec F S8192 .f32) (n : Fin 8192) :
    shapeCast S8192x1 x shapeCasts_S8192_S8192x1 (ix2 n (0 : Fin 1)) = x (ix1 n) := by
  pointwise

/-- The image the region finds is the argument without its unit axis, its last two axes exchanged. -/
theorem imageIn_apply (c : Dev nD) (r q : Fin 224) (k : Fin 96) :
    imageIn m c (ix3 r k q) = m ((c : Thread nD τ).loc main_arg0) (ix4 (0 : Fin 1) r q k) := by
  have e : V m c main_v1 = transpose S224x96x224 [0, 2, 1]
      (shapeCast S224x224x96 (m ((c : Thread nD τ).loc main_arg0)) shapeCasts_S1x224x224x96_S224x224x96)
      transposes_S224x224x96_S224x96x224_0_2_1 := by
    simp only [V, V0, hostOps0, List.flatten_cons, List.flatten_nil, List.append_nil]
    after_results
    rfl
  exact (congrFun (congrArg (View.read (Elt F) imageM.view) e) _).trans (channels_first _ r q k)

/-- Both weight operands' one block is their whole array. -/
theorem in_start : win0_0.index t0_0 0 * 8192 = 0 ∧ win0_0.index t0_0 1 * 4 = 0
    ∧ win0_1.index t0_0 0 * 8192 = 0 ∧ win0_1.index t0_0 1 * 1 = 0 := by decide +kernel

/-- The indices the region finds are the argument's. -/
theorem indexIn_eq (c : Dev nD) : indexIn m c = m ((c : Thread nD τ).loc main_arg1) := by
  refine Eq.trans ?_ (V_main_arg1 m c)
  funext j
  obtain ⟨e0, e1, -, -⟩ := in_start
  refine congrArg (V m c main_arg1) (funext fun a => Fin.ext ?_)
  match a with
  | ⟨0, _⟩ => show win0_0.index t0_0 0 * 8192 + 1 * (j ⟨0, by decide⟩).val = (j ⟨0, by decide⟩).val; rw [e0, Nat.zero_add, Nat.one_mul]
  | ⟨1, _⟩ => show win0_0.index t0_0 1 * 4 + 1 * (j ⟨1, by decide⟩).val = (j ⟨1, by decide⟩).val; rw [e1, Nat.zero_add, Nat.one_mul]

/-- The values the region finds are the argument's, as a column. -/
theorem valueIn_apply (c : Dev nD) (n : Fin 8192) :
    valueIn m c (ix2 n (0 : Fin 1)) = m ((c : Thread nD τ).loc main_arg2) (ix1 n) := by
  have e : V m c main_v2
      = shapeCast S8192x1 (m ((c : Thread nD τ).loc main_arg2)) shapeCasts_S8192_S8192x1 := by
    simp only [V, V0, hostOps0, List.flatten_cons, List.flatten_nil, List.append_nil]
    after_results
    rfl
  obtain ⟨-, -, e0, e1⟩ := in_start
  refine (show valueIn m c (ix2 n (0 : Fin 1)) = V m c main_v2 (ix2 n (0 : Fin 1)) from ?_).trans
    ((congrFun e _).trans (as_column _ n))
  refine congrArg (V m c main_v2) (funext fun a => Fin.ext ?_)
  match a with
  | ⟨0, _⟩ => show win0_1.index t0_0 0 * 8192 + 1 * n.val = n.val; rw [e0, Nat.zero_add, Nat.one_mul]
  | ⟨1, _⟩ => show win0_1.index t0_0 1 * 1 + 1 * 0 = 0; rw [e1]

/-- The kernel's result at row `y`, column `q`, channel `k`. -/
theorem result_apply (c : Dev nD) (y q : Fin 222) (k : Fin 96) :
    Pipeline.afterTail₀ cfgs (dats m) 0 (V0 m) [hostOps1] c main_v5 (ix4 (0 : Fin 1) y q k)
      = sumsOf (tableOf (indexIn m c) (valueIn m c)) (imageIn m c) (ix3 y k q) := by
  unfold Pipeline.afterTail₀
  have e : Pipeline.withArrays (cfgs (0 : Fin 1)).spec c (V0 m c) (fun w => (dats m 0 c).arrAt w (cfgs (0 : Fin 1)).N)
      (Proc.devRef .tc main_v3) = sumsOf (tableOf (indexIn m c) (valueIn m c)) (imageIn m c) :=
    (Pipeline.withArrays_arr spec0 (by decide) c (V0 m c) _ 2).trans (final_out m c)
  simp only [hostOps1, List.flatten_cons, List.flatten_nil, List.append_nil]
  after_results
  rw [e]
  pointwise

end Cert.KernelIdeal.Hand

end
-- ==== Proof.Bins.lean ====
/- The table of weight bins over the extended reals: a bin is the sum of the weights whose coordinates name it. -/
module

public import proofs.«01_k».proof.Proof.KernelValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The bin number of weight `n`, as the word the kernel computes. -/
def binWord (X1 : IVec S8192x4 32) (n : Fin 8192) : BitVec 32 :=
  ((X1 (ix2 n (1 : Fin 4)) * 3#32 + X1 (ix2 n (2 : Fin 4))) * 3#32 + X1 (ix2 n (3 : Fin 4))) * 3#32 + X1 (ix2 n (0 : Fin 4))

/-- Adding the lower half of an array's rows to its upper half keeps every column's sum. -/
theorem sum_halves {n N : Nat} (hN : N = n + n) (v : FVec Ideal ⟨2, ![N, 128]⟩ .f32)
    (h0 : Shape.Slices (⟨2, ![N, 128]⟩ : Shape) ![0, 0] ⟨2, ![n, 128]⟩)
    (h1 : Shape.Slices (⟨2, ![N, 128]⟩ : Shape) ![n, 0] ⟨2, ![n, 128]⟩) (l : Fin 128) :
    (∑ k : Fin n, addf (extractStridedSlice ⟨2, ![n, 128]⟩ ![0, 0] v h0)
        (extractStridedSlice ⟨2, ![n, 128]⟩ ![n, 0] v h1) (ix2 k l) : EReal)
      = ∑ k : Fin N, v (ix2 k l) := by
  subst hN
  rw [Fin.sum_univ_add, ← Finset.sum_add_distrib]
  refine Finset.sum_congr rfl fun k _ => ?_
  show v _ + v _ = _
  refine congrArg₂ (· + ·) (congrArg v (funext fun a => Fin.ext ?_)) (congrArg v (funext fun a => Fin.ext ?_))
  · match a with
    | ⟨0, _⟩ => exact Nat.zero_add _
    | ⟨1, _⟩ => exact Nat.zero_add _
  · match a with
    | ⟨0, _⟩ => rfl
    | ⟨1, _⟩ => exact Nat.zero_add _

/-- The last step of the reduction: every row of the result is the sum of the eight rows. -/
theorem sum_rows (w : FVec Ideal S8x128 .f32) (l : Fin 128) :
    (shapeCast S8x128 (broadcastTo S8x128 (shapeCast S1x128 (shapeCast S1x128
      (multiReduction .add [0] S128 w 0x00000000#32 reduces_S8x128_S128 (.inl rfl) rfl) shapeCasts_S128_S1x128)
      shapeCasts_S1x128_S1x128) broadcasts_S1x128_S8x128) shapeCasts_S8x128_S8x128 (ix2 (0 : Fin 8) l) : EReal)
      = ∑ k : Fin 8, w (ix2 k l) := by
  pointwise

/-- From 128 rows, the second part of the reduction leaves every column's sum. -/
theorem reduce_low (v : FVec Ideal S128x128 .f32) (l : Fin 128) :
    (k0_pay2 v (ix2 (0 : Fin 8) l) : EReal) = ∑ k : Fin 128, v (ix2 k l) := by
  unfold k0_pay2
  refine (sum_rows _ l).trans ?_
  refine (sum_halves (n := 8) (N := 16) rfl _ _ _ l).trans ?_
  refine (sum_halves (n := 16) (N := 32) rfl _ _ _ l).trans ?_
  refine (sum_halves (n := 32) (N := 64) rfl _ _ _ l).trans ?_
  exact sum_halves (n := 64) (N := 128) rfl _ _ _ l

/-- From the 8192 weights, the first part of the reduction leaves, summed over its rows, the weights whose bin
    number is the lane's. -/
theorem reduce_high (X1 : IVec S8192x4 32) (X2 : FVec Ideal S8192x1 .f32) (l : Fin 128) :
    (∑ k : Fin 128, k0_pay1 (F := Ideal) (indexColumn (F := Ideal) X1 0) (indexColumn (F := Ideal) X1 1)
        (indexColumn (F := Ideal) X1 2) (indexColumn (F := Ideal) X1 3) X2 (ix2 k l) : EReal)
      = ∑ n : Fin 8192, if binWord X1 n = BitVec.ofNat 32 l.val then X2 (ix2 n (0 : Fin 1)) else 0 := by
  unfold k0_pay1
  refine (sum_halves (n := 128) (N := 256) rfl _ _ _ l).trans ?_
  refine (sum_halves (n := 256) (N := 512) rfl _ _ _ l).trans ?_
  refine (sum_halves (n := 512) (N := 1024) rfl _ _ _ l).trans ?_
  refine (sum_halves (n := 1024) (N := 2048) rfl _ _ _ l).trans ?_
  refine (sum_halves (n := 2048) (N := 4096) rfl _ _ _ l).trans ?_
  refine (sum_halves (n := 4096) (N := 8192) rfl _ _ _ l).trans ?_
  refine Finset.sum_congr rfl fun n _ => ?_
  pointwise [indexColumn]
  simp only [← ix2_eq_valueIdx]
  change Scalar.select (IntOp.cmpi .eq (binWord X1 n) (BitVec.ofNat 32 l.val)) _ _ = _
  by_cases h : binWord X1 n = BitVec.ofNat 32 l.val
  · simp [h, Scalar.select, IntOp.cmpi]
  · have hb : (binWord X1 n == BitVec.ofNat 32 l.val) = false := beq_eq_false_iff_ne.mpr h
    simp [h, hb, Scalar.select, IntOp.cmpi]

/-- Row 0, lane `l` of the table: the sum of the weights whose bin number is `l`. -/
theorem table_apply (X1 : IVec S8192x4 32) (X2 : FVec Ideal S8192x1 .f32) (l : Fin 128) :
    (tableOf (F := Ideal) X1 X2 (ix2 (0 : Fin 8) l) : EReal)
      = ∑ n : Fin 8192, if binWord X1 n = BitVec.ofNat 32 l.val then X2 (ix2 n (0 : Fin 1)) else 0 :=
  (reduce_low _ l).trans (reduce_high X1 X2 l)

end Cert.KernelIdeal.Hand

end
-- ==== Proof.Reference.lean ====
/- What the reference's result is, element by element, over the extended reals. -/
module

public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-! ## The reference in four pieces -/

/-- One column of the weight coordinates, as a list. -/
def coordColumn (X1 : IVec S8192x4 32) (off : Fin 2 → ℕ) (h : S8192x4.Slices off S8192x1) : IVec S8192 32 :=
  shapeCast S8192 (extractStridedSlice S8192x1 off X1 h) shapeCasts_S8192x1_S8192

/-- A column whose negative entries have the axis's size added, stood up again. -/
def wrapColumn (v : IVec S8192 32) (b : BitVec 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 b))) v)

/-- The coordinates the weights are added at. -/
def startsOf (X1 : IVec S8192x4 32) : IVec S8192x4 32 :=
  concatenate S8192x4 1
    [⟨S8192x1, wrapColumn (coordColumn X1 ![0, 0] slices_S8192x4_S8192x1_0_0) 96#32⟩,
     ⟨S8192x1, wrapColumn (coordColumn X1 ![0, 1] slices_S8192x4_S8192x1_0_1) 3#32⟩,
     ⟨S8192x1, wrapColumn (coordColumn X1 ![0, 2] slices_S8192x4_S8192x1_0_2) 3#32⟩,
     ⟨S8192x1, wrapColumn (coordColumn X1 ![0, 3] slices_S8192x4_S8192x1_0_3) 96#32⟩]
    concatenates_S8192x1_S8192x1_S8192x1_S8192x1_S8192x4_d1

/-- The dense weights: the values added at their coordinates. -/
def denseOf (I : IVec S8192x4 32) (X2 : FVec Ideal S8192 .f32) : FVec Ideal S96x3x3x96 .f32 :=
  Host.scatterAdd scatter_S96x3x3x96_S8192x4_S8192_n_0123_0123_1
    (broadcastInDim S96x3x3x96 ![] bcast_S_S96x3x3x96 (constant S_ .f32 0x00000000#32)) I X2

/-- One shifted copy of the image. -/
def patchOf (X0 : FVec Ideal S1x224x224x96 .f32) (off : Fin 4 → ℕ) (h : S1x96x224x224.Slices off S1x96x222x222) :
    FVec Ideal S1x96x1x222x222 .f32 :=
  broadcastInDim S1x96x1x222x222 ![0, 1, 3, 4] bcast_S1x96x222x222_S1x96x1x222x222_0_1_3_4
    (extractStridedSlice S1x96x222x222 off
      (transpose S1x96x224x224 [0, 3, 1, 2] X0 transposes_S1x224x224x96_S1x96x224x224_0_3_1_2) h)

/-- The nine shifted copies, stacked. -/
def patchesOf (X0 : FVec Ideal S1x224x224x96 .f32) : FVec Ideal S1x96x9x222x222 .f32 :=
  concatenate S1x96x9x222x222 2
    [⟨S1x96x1x222x222, patchOf X0 ![0, 0, 0, 0] slices_S1x96x224x224_S1x96x222x222_0_0_0_0⟩,
     ⟨S1x96x1x222x222, patchOf X0 ![0, 0, 0, 1] slices_S1x96x224x224_S1x96x222x222_0_0_0_1⟩,
     ⟨S1x96x1x222x222, patchOf X0 ![0, 0, 0, 2] slices_S1x96x224x224_S1x96x222x222_0_0_0_2⟩,
     ⟨S1x96x1x222x222, patchOf X0 ![0, 0, 1, 0] slices_S1x96x224x224_S1x96x222x222_0_0_1_0⟩,
     ⟨S1x96x1x222x222, patchOf X0 ![0, 0, 1, 1] slices_S1x96x224x224_S1x96x222x222_0_0_1_1⟩,
     ⟨S1x96x1x222x222, patchOf X0 ![0, 0, 1, 2] slices_S1x96x224x224_S1x96x222x222_0_0_1_2⟩,
     ⟨S1x96x1x222x222, patchOf X0 ![0, 0, 2, 0] slices_S1x96x224x224_S1x96x222x222_0_0_2_0⟩,
     ⟨S1x96x1x222x222, patchOf X0 ![0, 0, 2, 1] slices_S1x96x224x224_S1x96x222x222_0_0_2_1⟩,
     ⟨S1x96x1x222x222, patchOf X0 ![0, 0, 2, 2] slices_S1x96x224x224_S1x96x222x222_0_0_2_2⟩]
    concatenates_S1x96x1x222x222_S1x96x1x222x222_S1x96x1x222x222_S1x96x1x222x222_S1x96x1x222x222_S1x96x1x222x222_S1x96x1x222x222_S1x96x1x222x222_S1x96x1x222x222_S1x96x9x222x222_d2

/-- The product of the weights with the copies, its channels moved last. -/
def productOf (D : FVec Ideal S96x3x3x96 .f32) (P : FVec Ideal S1x96x9x222x222 .f32) : FVec Ideal S1x222x222x96 .f32 :=
  transpose S1x222x222x96 [0, 2, 3, 1]
    (shapeCast S1x96x222x222
      (Host.dotGeneral dot_S96x864_S864x49284_S96x49284_1_0_0_1_n_n none
        (shapeCast S96x864 D shapeCasts_S96x3x3x96_S96x864)
        (shapeCast S864x49284 (shapeCast S1x864x49284 P shapeCasts_S1x96x9x222x222_S1x864x49284)
          shapeCasts_S1x864x49284_S864x49284))
      shapeCasts_S96x49284_S1x96x222x222)
    transposes_S1x96x222x222_S1x222x222x96_0_2_3_1

set_option maxHeartbeats 4000000 in
/-- The reference's result is the product of the dense weights with the nine copies. -/
theorem result_eq (m : (ℓ : Loc nD τ sig) → Buf (Elt Ideal) ℓ) (c : Dev nD) :
    Value.res_main_v60 m c
      = productOf (denseOf (startsOf (m ((c.tc : Thread nD τ).loc main_arg1))) (m ((c.tc : Thread nD τ).loc main_arg2)))
          (patchesOf (m ((c.tc : Thread nD τ).loc main_arg0))) := by
  unfold Value.res_main_v60
  rfl

/-! ## Each piece at an index -/

/-- The result at row `y`, column `q`, channel `o`: the sum over the 864 coordinates of a window. -/
theorem productOf_apply (D : FVec Ideal S96x3x3x96 .f32) (P : FVec Ideal S1x96x9x222x222 .f32) (y q : Fin 222) (o : Fin 96) :
    (productOf D P (ix4 (0 : Fin 1) y q o) : EReal)
      = ∑ k : Fin 864, D (ix4 o (⟨k.val / 288, by omega⟩ : Fin 3) (⟨k.val / 96 % 3, by omega⟩ : Fin 3) (⟨k.val % 96, by omega⟩ : Fin 96))
          * P (ix5 (0 : Fin 1) (⟨k.val / 9, by omega⟩ : Fin 96) (⟨k.val % 9, by omega⟩ : Fin 9) y q) := by
  unfold productOf
  pointwise

/-- Copy `s` of the image at a channel, row and column. -/
theorem patchesOf_apply (X0 : FVec Ideal S1x224x224x96 .f32) (k : Fin 96) (s : Fin 9) (y q : Fin 222) :
    patchesOf X0 (ix5 (0 : Fin 1) k s y q)
      = X0 (ix4 (0 : Fin 1) (⟨s.val / 3 + y.val, by omega⟩ : Fin 224) (⟨s.val % 3 + q.val, by omega⟩ : Fin 224) k) := by
  unfold patchesOf patchOf
  fin_cases s
  all_goals pointwise

/-- A word that is not negative is kept where negative words are replaced. -/
theorem keep_nonneg (v w : BitVec 32) (h : 0 ≤ v.toInt) : Scalar.select (IntOp.cmpi .slt v 0#32) w v = v := by
  have hb : BitVec.slt v 0#32 = false := by
    rw [BitVec.slt_eq_decide]
    exact decide_eq_false (not_lt.mpr h)
  simp [Scalar.select, IntOp.cmpi, hb]

/-- A coordinate that is not negative is used as it is. -/
theorem startsOf_apply (X1 : IVec S8192x4 32) (n : Fin 8192) (a : Fin 4) (h : 0 ≤ (X1 (ix2 n a)).toInt) :
    startsOf X1 (ix2 n a) = X1 (ix2 n a) := by
  unfold startsOf wrapColumn coordColumn
  fin_cases a
  all_goals
    pointwise
    exact keep_nonneg _ _ h

/-- The update of weight `n` starts at its four coordinates, read as signed words. -/
theorem start_eq (I : IVec S8192x4 32) (n : Fin 8192) (a : Fin 4) :
    scatter_S96x3x3x96_S8192x4_S8192_n_0123_0123_1.start (ix1 n) I a = (I (ix2 n a)).toInt := by
  unfold ScatterDims.start
  rw [dif_pos (by revert a; decide)]
  refine congrArg (fun i => (I i).toInt) (funext fun b => ?_)
  fin_cases a <;> fin_cases b <;> rfl

/-- An update is one element: it has no window axis. -/
theorem window_eq (n : Fin 8192) (a : Fin 4) :
    scatter_S96x3x3x96_S8192x4_S8192_n_0123_0123_1.window (ix1 n) a = 0 := by
  unfold ScatterDims.window
  rw [dif_neg (by revert a; decide)]

/-- The dense weights at an index: the sum of the values whose coordinates are that index. -/
theorem denseOf_apply (I : IVec S8192x4 32) (X2 : FVec Ideal S8192 .f32) (i : S96x3x3x96.Idx) :
    (denseOf I X2 i : EReal)
      = ∑ n : Fin 8192, if ∀ a : Fin 4, (I (ix2 n a)).toInt = ((i a).val : ℤ) then X2 (ix1 n) else 0 := by
  have e : (denseOf I X2 i : EReal)
      = 0 + ∑ j ∈ Finset.univ.filter
        (fun j => scatter_S96x3x3x96_S8192x4_S8192_n_0123_0123_1.resultIdx? j I = some i), X2 j := by
    have z : (broadcastInDim S96x3x3x96 ![] bcast_S_S96x3x3x96 (constant (F := Ideal) S_ .f32 0x00000000#32) i : EReal) = 0 := by
      pointwise
    rw [← z]
    rfl
  rw [e, zero_add, Finset.sum_filter, sum_idx1]
  refine Finset.sum_congr rfl fun n _ => if_congr ?_ rfl rfl
  rw [Routing.resultIdx?_eq_some]
  refine forall_congr' fun a => ?_
  rw [start_eq, window_eq]
  simp

end Cert.ReferenceIdeal.Hand

end
-- ==== Proof.Equal.lean ====
/- The kernel's result is the reference's, over the extended reals, when every weight coordinate is 0, 1 or 2. -/
module

public import proofs.«01_k».proof.Proof.Bins
public import proofs.«01_k».proof.Proof.Reference

@[expose] public section

set_option maxRecDepth 16384

noncomputable section

namespace Cert.KernelIdeal.Hand

open Cert.KernelIdeal
open Idealize.ShloMosaic Idealize.ShloMosaic.TcCoe Idealize.ShloMosaic.Tactic
open Cert.ReferenceIdeal.Hand (denseOf startsOf patchesOf productOf)

/-- Every weight coordinate, read as a signed word, is 0, 1 or 2. -/
def InRange (X1 : IVec S8192x4 32) : Prop :=
  ∀ (n : Fin 8192) (a : Fin 4), 0 ≤ (X1 (ix2 n a)).toInt ∧ (X1 (ix2 n a)).toInt < 3

/-! ## Sums -/

/-- The zero the running sums start from is zero. -/
theorem zeroF_eq : (zeroF (F := Ideal) : EReal) = 0 := by
  unfold zeroF
  pointwise

/-- The kernel's running sum is the sum over the nine planes and the three column shifts. -/
theorem taps_eq (f : Fin 9 → Fin 3 → EReal) : (taps (F := Ideal) f : EReal) = ∑ t : Fin 9, ∑ c : Fin 3, f t c := by
  have h : ∀ (acc : EReal) (g : Fin 3 → EReal), (tap3 (F := Ideal) acc g : EReal) = acc + ∑ c, g c := by
    intro acc g
    show acc + g 0 + g 1 + g 2 = _
    rw [Fin.sum_univ_three, ← add_assoc, ← add_assoc]
  unfold taps
  simp only [h, zeroF_eq, zero_add]
  simp only [Fin.sum_univ_castSucc (n := 8), Fin.sum_univ_eight]
  rfl

/-- The 864 coordinates of a window as nine runs of 96. -/
theorem sum_runs (f : Fin 864 → EReal) :
    ∑ k, f k = ∑ t : Fin 9, ∑ c : Fin 96, f ⟨96 * t.val + c.val, by omega⟩ := by
  rw [← Fintype.sum_prod_type' (f := fun (t : Fin 9) (c : Fin 96) => f ⟨96 * t.val + c.val, by omega⟩)]
  refine (Fintype.sum_equiv (finProdFinEquiv (m := 9) (n := 96)) _ _ fun p => ?_).symm
  exact congrArg f (Fin.ext (Nat.add_comm _ _))

/-- A sum over 96 channels whose terms vanish from the fourth on is the sum of the first three. -/
theorem sum_three (g : Fin 96 → EReal) (hz : ∀ c : Fin 96, 3 ≤ c.val → g c = 0) :
    ∑ c, g c = ∑ c : Fin 3, g ⟨c.val, by omega⟩ := by
  refine (Fin.sum_univ_add (a := 3) (b := 93) g).trans ?_
  rw [Finset.sum_eq_zero (s := Finset.univ (α := Fin 93)) fun c _ => hz _ (Nat.le_add_right 3 c.val), add_zero]
  rfl

/-! ## The weights -/

/-- A word whose signed value is 0, 1 or 2 is one of the three words. -/
theorem word_of_range (v : BitVec 32) (h0 : 0 ≤ v.toInt) (h1 : v.toInt < 3) : ∃ d : Fin 3, v = BitVec.ofNat 32 d.val := by
  have e : v = BitVec.ofInt 32 v.toInt := (BitVec.ofInt_toInt).symm
  have h : v.toInt = 0 ∨ v.toInt = 1 ∨ v.toInt = 2 := by omega
  rcases h with h | h | h <;> rw [h] at e
  · exact ⟨0, e⟩
  · exact ⟨1, e⟩
  · exact ⟨2, e⟩

/-- The bin number of coordinates below three names its coordinates. -/
theorem bin_iff : ∀ (d0 d1 d2 d3 : Fin 3) (t : Fin 9) (c o : Fin 3),
    ((BitVec.ofNat 32 d1.val * 3#32 + BitVec.ofNat 32 d2.val) * 3#32 + BitVec.ofNat 32 d3.val) * 3#32 + BitVec.ofNat 32 d0.val
        = BitVec.ofNat 32 (binOf t c o).val
      ↔ ((BitVec.ofNat 32 d0.val).toInt = (o.val : ℤ) ∧ (BitVec.ofNat 32 d1.val).toInt = ((t.val / 3 : ℕ) : ℤ)
        ∧ (BitVec.ofNat 32 d2.val).toInt = ((t.val % 3 : ℕ) : ℤ) ∧ (BitVec.ofNat 32 d3.val).toInt = (c.val : ℤ)) := by
  decide +kernel

/-- The coordinates of the dense weight that plane `t`, column shift `c` and output channel `o` name. -/
def tapIndex (t : Fin 9) (c o : Fin 96) : Cert.ReferenceIdeal.S96x3x3x96.Idx :=
  ix4 o (⟨t.val / 3, by omega⟩ : Fin 3) (⟨t.val % 3, by omega⟩ : Fin 3) c

/-- The dense weights under in-range coordinates. -/
theorem dense_apply (X1 : IVec S8192x4 32) (X2 : FVec Ideal S8192 .f32) (hin : InRange X1) (t : Fin 9) (c o : Fin 96) :
    (denseOf (startsOf X1) X2 (tapIndex t c o) : EReal)
      = ∑ n : Fin 8192, if (X1 (ix2 n (0 : Fin 4))).toInt = (o.val : ℤ) ∧ (X1 (ix2 n (1 : Fin 4))).toInt = ((t.val / 3 : ℕ) : ℤ)
          ∧ (X1 (ix2 n (2 : Fin 4))).toInt = ((t.val % 3 : ℕ) : ℤ) ∧ (X1 (ix2 n (3 : Fin 4))).toInt = (c.val : ℤ)
        then X2 (ix1 n) else 0 := by
  rw [Cert.ReferenceIdeal.Hand.denseOf_apply]
  refine Finset.sum_congr rfl fun n _ => if_congr ?_ rfl rfl
  have e : ∀ a : Fin 4, (startsOf X1 (ix2 n a)) = X1 (ix2 n a) :=
    fun a => Cert.ReferenceIdeal.Hand.startsOf_apply X1 n a (hin n a).1
  constructor
  · intro h
    exact ⟨(e 0) ▸ h 0, (e 1) ▸ h 1, (e 2) ▸ h 2, (e 3) ▸ h 3⟩
  · rintro ⟨h0, h1, h2, h3⟩ a
    rw [e a]
    fin_cases a
    exacts [h0, h1, h2, h3]

/-- A dense weight outside the first three output or input channels is zero. -/
theorem dense_zero (X1 : IVec S8192x4 32) (X2 : FVec Ideal S8192 .f32) (hin : InRange X1) (t : Fin 9) (c o : Fin 96)
    (h : 3 ≤ c.val ∨ 3 ≤ o.val) : (denseOf (startsOf X1) X2 (tapIndex t c o) : EReal) = 0 := by
  rw [dense_apply X1 X2 hin]
  refine Finset.sum_eq_zero fun n _ => if_neg ?_
  rintro ⟨h0, -, -, h3⟩
  have i0 := (hin n 0).2
  have i3 := (hin n 3).2
  omega

/-- The kernel's bin is the reference's dense weight. -/
theorem bin_eq_dense (X1 : IVec S8192x4 32) (X2 : FVec Ideal S8192 .f32) (Y2 : FVec Ideal S8192x1 .f32)
    (hY : ∀ n : Fin 8192, Y2 (ix2 n (0 : Fin 1)) = X2 (ix1 n)) (hin : InRange X1) (t : Fin 9) (c o : Fin 3) :
    (tableOf (F := Ideal) X1 Y2 (ix2 (0 : Fin 8) (binOf t c o)) : EReal)
      = denseOf (startsOf X1) X2 (tapIndex t ⟨c.val, by omega⟩ ⟨o.val, by omega⟩) := by
  rw [table_apply, dense_apply X1 X2 hin]
  refine Finset.sum_congr rfl fun n _ => if_congr ?_ (hY n) rfl
  obtain ⟨d0, e0⟩ := word_of_range _ (hin n 0).1 (hin n 0).2
  obtain ⟨d1, e1⟩ := word_of_range _ (hin n 1).1 (hin n 1).2
  obtain ⟨d2, e2⟩ := word_of_range _ (hin n 2).1 (hin n 2).2
  obtain ⟨d3, e3⟩ := word_of_range _ (hin n 3).1 (hin n 3).2
  unfold binWord
  rw [e0, e1, e2, e3]
  exact bin_iff d0 d1 d2 d3 t c o

/-! ## The results -/

/-- The reference's result in its first three channels: 27 products. -/
theorem product_low (X0 : FVec Ideal S1x224x224x96 .f32) (X1 : IVec S8192x4 32) (X2 : FVec Ideal S8192 .f32)
    (hin : InRange X1) (y q : Fin 222) (o : Fin 96) :
    (productOf (denseOf (startsOf X1) X2) (patchesOf X0) (ix4 (0 : Fin 1) y q o) : EReal)
      = ∑ t : Fin 9, ∑ c : Fin 3, denseOf (startsOf X1) X2 (tapIndex t ⟨c.val, by omega⟩ o)
          * X0 (ix4 (0 : Fin 1) (pixelRow y (shift t)) (colOf q c) (planeChannel t)) := by
  rw [Cert.ReferenceIdeal.Hand.productOf_apply, sum_runs]
  refine Finset.sum_congr rfl fun t _ => ?_
  have hD : ∀ c : Fin 96, (ix4 o (⟨(96 * t.val + c.val) / 288, by omega⟩ : Fin 3)
      (⟨(96 * t.val + c.val) / 96 % 3, by omega⟩ : Fin 3) (⟨(96 * t.val + c.val) % 96, by omega⟩ : Fin 96)
        : Cert.ReferenceIdeal.S96x3x3x96.Idx) = tapIndex t c o := by
    intro c
    unfold tapIndex
    refine (ix4_inj _ _ _ _ _ _ _ _).mpr ⟨rfl, Fin.ext ?_, Fin.ext ?_, Fin.ext ?_⟩
    · show (96 * t.val + c.val) / 288 = t.val / 3; omega
    · show (96 * t.val + c.val) / 96 % 3 = t.val % 3; omega
    · show (96 * t.val + c.val) % 96 = c.val; omega
  refine (sum_three _ fun c hc => ?_).trans (Finset.sum_congr rfl fun c _ => ?_)
  · dsimp only
    rw [hD c, dense_zero X1 X2 hin t c o (.inl hc), zero_mul]
  · dsimp only
    rw [hD ⟨c.val, by omega⟩, Cert.ReferenceIdeal.Hand.patchesOf_apply]
    refine congrArg (fun i => denseOf (startsOf X1) X2 (tapIndex t ⟨c.val, by omega⟩ o) * X0 i) ?_
    refine (ix4_inj _ _ _ _ _ _ _ _).mpr ⟨rfl, Fin.ext ?_, Fin.ext ?_, Fin.ext ?_⟩
    · show (96 * t.val + c.val) % 9 / 3 + y.val = 2 * t.val % 3 + y.val; omega
    · show (96 * t.val + c.val) % 9 % 3 + q.val = c.val + q.val; omega
    · show (96 * t.val + c.val) / 9 = 32 * t.val / 3; omega

/-- The kernel's sums and the reference's product agree at every element. -/
theorem sums_eq_product (X0 : FVec Ideal S1x224x224x96 .f32) (X1 : IVec S8192x4 32) (X2 : FVec Ideal S8192 .f32)
    (x : FVec Ideal S224x96x224 .f32) (Y2 : FVec Ideal S8192x1 .f32)
    (hx : ∀ (r q : Fin 224) (k : Fin 96), x (ix3 r k q) = X0 (ix4 (0 : Fin 1) r q k))
    (hY : ∀ n : Fin 8192, Y2 (ix2 n (0 : Fin 1)) = X2 (ix1 n)) (hin : InRange X1) (y q : Fin 222) (o : Fin 96) :
    sumsOf (tableOf (F := Ideal) X1 Y2) x (ix3 y o q)
      = productOf (denseOf (startsOf X1) X2) (patchesOf X0) (ix4 (0 : Fin 1) y q o) := by
  rw [product_low X0 X1 X2 hin]
  unfold sumsOf
  by_cases h : o.val < 3
  · rw [dif_pos (show (ix3 y o q 1).val < 3 from h)]
    refine (taps_eq _).trans (Finset.sum_congr rfl fun t _ => Finset.sum_congr rfl fun c _ => ?_)
    show (tableOf (F := Ideal) X1 Y2 (ix2 (0 : Fin 8) (binOf t c ⟨o.val, h⟩)) : EReal)
      * x (ix3 (pixelRow y (shift t)) (planeChannel t) (colOf q c)) = _
    rw [bin_eq_dense X1 X2 Y2 hY hin, hx]
  · rw [dif_neg (show ¬ (ix3 y o q 1).val < 3 from h)]
    refine zeroF_eq.trans (Eq.symm ?_)
    refine Finset.sum_eq_zero fun t _ => Finset.sum_eq_zero fun c _ => ?_
    rw [dense_zero X1 X2 hin t _ o (.inr (Nat.le_of_not_lt h)), zero_mul]

end Cert.KernelIdeal.Hand

end
-- ==== Proof.Algebraic.lean ====
/- The claim about values: from the same arguments with in-range weight coordinates, the ideal kernel and the ideal
reference end with the same result. -/
module

public import proofs.«01_k».proof.Defs
public import proofs.«01_k».proof.Proof.Equal
public import proofs.«01_k».proof.Proof.Frames

@[expose] public section

set_option maxRecDepth 16384

noncomputable section

namespace Cert.Pre_in_range

/-- The side condition of the precondition's own operations: a scalar broadcasts to the coordinates' shape. -/
theorem facts_hold : Facts := ⟨by decide⟩

end Cert.Pre_in_range

namespace Cert.KernelIdeal.Hand

open Cert.KernelIdeal Cert.KernelIdeal.Gen
open Idealize.ShloMosaic Idealize.ShloMosaic.TcCoe Idealize.ShloMosaic.Tactic Idealize.SL.Sem
open Cert.ReferenceIdeal.Hand (denseOf startsOf patchesOf productOf)

/-- Two signed comparisons joined by "and" hold exactly when both do. -/
theorem range_of_bits (v : BitVec 32)
    (h : BitVec.ofBool ((0#32).sle v) &&& BitVec.ofBool (v.slt 3#32) = 1#1) : 0 ≤ v.toInt ∧ v.toInt < 3 := by
  have h' : ((0#32).sle v && v.slt 3#32) = true := by
    cases h0 : (0#32).sle v <;> cases h1 : v.slt 3#32 <;> simp [h0, h1] at h ⊢
  rw [Bool.and_eq_true] at h'
  exact ⟨by simpa [BitVec.sle] using h'.1, by simpa [BitVec.slt] using h'.2⟩

/-- The precondition says that every weight coordinate is 0, 1 or 2. -/
theorem inRange_of_pre [Cert.Pre_in_range.Facts] (X0 : FVec Ideal S1x224x224x96 .f32) (X1 : IVec S8192x4 32)
    (X2 : FVec Ideal S8192 .f32) (h : Cert.Pre_in_range.fn (F := Ideal) X0 X1 X2 = fun _ => 1#1) : InRange X1 := by
  intro n a
  exact range_of_bits _ (congrFun h (ix2 n a))

variable (m : (ℓ : Loc nD τ sig) → Buf (Elt Ideal) ℓ) (ρ : Dev nD → PrngReg)

/-- What the ideal kernel leaves in its result on core `c`. -/
def resultOf (c : Dev nD) : Buf (Elt Ideal) ((c.tc : Thread nD τ).loc main_v5) :=
  Pipeline.afterTail₀ cfgs (dats m) 0 (V0 m) [hostOps1] c main_v5

/-- The ideal kernel ends with that result and leaves its arguments alone. -/
theorem value_run : θ_run defs (onTc (τ := τ) (main (F := Ideal))) ⟨m, fun _ => 0, ρ⟩ (fun r => ∀ c : Dev nD,
      r.2.mem ((c.tc : Thread nD τ).loc main_v5) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1 c).2 main_v5 (Pipeline.mem_restRefs_of main_v5 (by decide) (by decide)),
      ((h.1 c).2 main_arg0 (Pipeline.mem_restRefs_of main_arg0 (by decide) (by decide))).trans (kept_main_arg0 m c),
      ((h.1 c).1 0).trans (((dats m 0 c).arrAt_in 0 rfl _).trans ((A_eq m c 0).trans (V_main_arg1 m c))),
      ((h.1 c).2 main_arg2 (Pipeline.mem_restRefs_of main_arg2 (by decide) (by decide))).trans (kept_main_arg2 m c)⟩)
    (run_main m ρ)

/-- Two arrays of the result's shape agree when they agree at every row, column and channel. -/
theorem result_ext (f g : FVec Ideal S1x222x222x96 .f32)
    (h : ∀ (y q : Fin 222) (o : Fin 96), f (ix4 (0 : Fin 1) y q o) = g (ix4 (0 : Fin 1) y q o)) : f = g := by
  funext i
  have e : i = ix4 (0 : Fin 1) (i 1) (i 2) (i 3) := by
    funext a
    fin_cases a
    · exact Subsingleton.elim (α := Fin 1) _ _
    · rfl
    · rfl
    · rfl
  rw [e]
  exact h _ _ _

/-- The ideal kernel's result is the reference's product of dense weights and patches. -/
theorem resultOf_eq (c : Dev nD) (hin : InRange (m ((c.tc : Thread nD τ).loc main_arg1))) :
    resultOf m c = productOf (denseOf (startsOf (m ((c.tc : Thread nD τ).loc main_arg1)))
      (m ((c.tc : Thread nD τ).loc main_arg2))) (patchesOf (m ((c.tc : Thread nD τ).loc main_arg0))) := by
  refine result_ext _ _ fun y q o => ?_
  refine (result_apply m c y q o).trans ?_
  rw [indexIn_eq m c]
  exact sums_eq_product _ _ _ _ _ (fun r q k => imageIn_apply m c r q k) (fun n => valueIn_apply m c n) hin y q o

/-- The ideal kernel and the ideal reference end with equal results. -/
theorem values_agree : Cert.algebraic_KernelIdeal_ReferenceIdeal_pre_in_range (hKernelIdeal := Cert.KernelIdeal.Gen.facts)
    (hReferenceIdeal := Cert.ReferenceIdeal.Gen.facts) (hPre_in_range := Cert.Pre_in_range.facts_hold) := by
  intro m ρ m' ρ' hpre hag
  refine ⟨resultOf m, value_run m ρ, ?_⟩
  refine (θ_run _ _ _).mono (fun r h c => ⟨(h c).1.trans ?_, (h c).2⟩) (Cert.ReferenceIdeal.Value.run (F := Ideal) m' ρ')
  have hin := @inRange_of_pre Cert.Pre_in_range.facts_hold _ _ _ (hpre c)
  refine (Cert.ReferenceIdeal.Hand.result_eq m' c).trans ?_
  refine Eq.trans ?_ (resultOf_eq m c hin).symm
  rw [(hag c).1, (hag c).2.1, (hag c).2.2]

end Cert.KernelIdeal.Hand

end
-- ==== Proof.lean ====
module

public import proofs.«01_k».proof.Defs
public import proofs.«01_k».proof.Proof.Frames
public import proofs.«01_k».proof.Proof.Algebraic

/-! The claim, assembled from the frames and the equality of the values. -/

@[expose] public section

noncomputable section

namespace Cert.Proof

theorem claim : Cert.Claim :=
  ⟨Cert.Kernel.Gen.facts, Cert.KernelIdeal.Gen.facts, Cert.ReferenceIdeal.Gen.facts, Cert.Pre_in_range.facts_hold,
    Cert.KernelIdeal.Hand.kernel_frame, Cert.KernelIdeal.Hand.ideal_frame,
    fun m g _ => Cert.KernelIdeal.Hand.ideal_frame m g trivial,
    Cert.KernelIdeal.Hand.reference_frame,
    fun m g _ => Cert.KernelIdeal.Hand.reference_frame m g trivial,
    trivial, Cert.KernelIdeal.Hand.values_agree⟩

end Cert.Proof

end
